-- ==== Defs.lean ====
def Pre_Kernel [hPre_offset_in_table : Cert.Pre_offset_in_table.Facts] (m : (ℓ : Loc Cert.Kernel.nD Cert.Kernel.τ Cert.Kernel.sig) → Buf (Elt Bits) ℓ) : Prop :=
  ∀ c : Dev Cert.Kernel.nD,
    (Cert.Pre_offset_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_offset_in_table : Cert.Pre_offset_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_offset_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_KernelIdeal_finite_and_in_table [hPre_finite_and_in_table : Cert.Pre_finite_and_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.1 = (fun _ => 1#1)
    ∧ (Cert.Pre_finite_and_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_table [hPre_finite_and_in_table : Cert.Pre_finite_and_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.1 = (fun _ => 1#1)
    ∧ (Cert.Pre_finite_and_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2.2 = (fun _ => 1#1)

def quiescent_Kernel [hKernel : Cert.Kernel.Facts] [hPre_offset_in_table : Cert.Pre_offset_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_offset_in_table : Cert.Pre_offset_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_and_in_table [hKernelIdeal : Cert.KernelIdeal.Facts] [hPre_finite_and_in_table : Cert.Pre_finite_and_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_table m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_and_in_table [hReferenceIdeal : Cert.ReferenceIdeal.Facts] [hPre_finite_and_in_table : Cert.Pre_finite_and_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "scale_log2e" .f32 0x429044FE#32 ((((5368709 / 268435456) * (Real.log 2))⁻¹ : ℝ) : EReal)
  ∧ IdealRules.named_const.Statement Cert.KernelIdeal.κ "inv_ln2" .f32 0x3FB8AA3B#32 (((Real.log 2)⁻¹ : ℝ) : EReal)
  ∧ IdealRules.named_const.Statement Cert.KernelIdeal.κ "rows_log2e" .f32 0x44B8AA3B#32 ((1024 * (Real.log 2)⁻¹ : ℝ) : EReal)

def algebraic_KernelIdeal_ReferenceIdeal_pre_finite_and_in_table [hKernelIdeal : Cert.KernelIdeal.Facts] [hReferenceIdeal : Cert.ReferenceIdeal.Facts] [hPre_finite_and_in_table : Cert.Pre_finite_and_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_table m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_offset_in_table : Cert.Pre_offset_in_table.Facts) (hPre_finite_and_in_table : Cert.Pre_finite_and_in_table.Facts),
    quiescent_Kernel (hKernel := hKernel) (hPre_offset_in_table := hPre_offset_in_table)
    ∧ quiescent_KernelIdeal (hKernelIdeal := hKernelIdeal) (hPre_offset_in_table := hPre_offset_in_table)
    ∧ quiescent_KernelIdeal_pre_finite_and_in_table (hKernelIdeal := hKernelIdeal) (hPre_finite_and_in_table := hPre_finite_and_in_table)
    ∧ quiescent_ReferenceIdeal (hReferenceIdeal := hReferenceIdeal)
    ∧ quiescent_ReferenceIdeal_pre_finite_and_in_table (hReferenceIdeal := hReferenceIdeal) (hPre_finite_and_in_table := hPre_finite_and_in_table)
    ∧ preserves_Kernel_KernelIdeal
    ∧ algebraic_KernelIdeal_ReferenceIdeal_pre_finite_and_in_table (hKernelIdeal := hKernelIdeal) (hReferenceIdeal := hReferenceIdeal) (hPre_finite_and_in_table := hPre_finite_and_in_table)
-- ==== Pre_finite_and_in_table.lean ====
abbrev S1024x1024 : Shape := ⟨2, ![1024, 1024]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  bcast_S_S8192x1024 : S_.BroadcastsInDim S8192x1024 (![] : Fin 0 → Fin S8192x1024.rank)

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S_ 32) (arg1 : IVec S_ 32) : IVec S_ 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S_ 32 := Host.remsi arg0 v2
  let c_1 : IVec S_ 32 := constantI S_ 32 0#32
  let v4 : IVec S_ 1 := cmpi .ne v3 c_1
  let c_2 : IVec S_ 32 := constantI S_ 32 0#32
  let v5 : IVec S_ 1 := cmpi .slt v3 c_2
  let c_3 : IVec S_ 32 := constantI S_ 32 0#32
  let v6 : IVec S_ 1 := cmpi .slt v2 c_3
  let v7 : IVec S_ 1 := cmpi .ne v5 v6
  let v8 : IVec S_ 1 := andi v7 v4
  let v9 : IVec S_ 32 := addi v3 v2
  let v10 : IVec S_ 32 := select v8 v9 v3
  v10

def fn {F : FTy → Type} [FloatOps F] (main_arg0 : FVec F S1024x1024 .f32) (main_arg1 : FVec F S8192x1024 .f32) (main_arg2 : IVec S_ 32) : IVec S1024x1024 1 × IVec S8192x1024 1 × IVec S_ 1 × IVec S_ 1 × IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_v3 : FVec F S8192x1024 .f32 := Host.absf main_arg1
  let main_cst_0 : FVec F S_ .f32 := constant S_ .f32 0x7F800000#32
  let main_v4 : FVec F S8192x1024 .f32 := broadcastInDim S8192x1024 ![] bcast_S_S8192x1024 main_cst_0
  let main_v5 : IVec S8192x1024 1 := cmpf .olt main_v3 main_v4
  let main_c : IVec S_ 32 := constantI S_ 32 0#32
  let main_v6 : IVec S_ 1 := cmpi .sge main_arg2 main_c
  let main_c_1 : IVec S_ 32 := constantI S_ 32 7168#32
  let main_v7 : IVec S_ 1 := cmpi .sle main_arg2 main_c_1
  let main_c_2 : IVec S_ 32 := constantI S_ 32 8#32
  let main_v8 : IVec S_ 32 := fn_remainder (F := F) main_arg2 main_c_2
  let main_c_3 : IVec S_ 32 := constantI S_ 32 0#32
  let main_v9 : IVec S_ 1 := cmpi .eq main_v8 main_c_3
  (main_v2, main_v5, main_v6, main_v7, main_v9)
-- ==== Pre_offset_in_table.lean ====
abbrev S1024x1024 : Shape := ⟨2, ![1024, 1024]⟩
abbrev S8192x1024 : Shape := ⟨2, ![8192, 1024]⟩
abbrev S_ : Shape := ⟨0, ![]⟩

class Facts : Prop where

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S_ 32) (arg1 : IVec S_ 32) : IVec S_ 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S_ 32 := Host.remsi arg0 v2
  let c_1 : IVec S_ 32 := constantI S_ 32 0#32
  let v4 : IVec S_ 1 := cmpi .ne v3 c_1
  let c_2 : IVec S_ 32 := constantI S_ 32 0#32
  let v5 : IVec S_ 1 := cmpi .slt v3 c_2
  let c_3 : IVec S_ 32 := constantI S_ 32 0#32
  let v6 : IVec S_ 1 := cmpi .slt v2 c_3
  let v7 : IVec S_ 1 := cmpi .ne v5 v6
  let v8 : IVec S_ 1 := andi v7 v4
  let v9 : IVec S_ 32 := addi v3 v2
  let v10 : IVec S_ 32 := select v8 v9 v3
  v10

def fn {F : FTy → Type} [FloatOps F] (main_arg0 : FVec F S1024x1024 .f32) (main_arg1 : FVec F S8192x1024 .f32) (main_arg2 : IVec S_ 32) : IVec S_ 1 :=
  let main_c : IVec S_ 32 := constantI S_ 32 0#32
  let main_v0 : IVec S_ 1 := cmpi .sge main_arg2 main_c
  let main_c_0 : IVec S_ 32 := constantI S_ 32 7168#32
  let main_v1 : IVec S_ 1 := cmpi .sle main_arg2 main_c_0
  let main_v2 : IVec S_ 1 := andi main_v0 main_v1
  let main_c_1 : IVec S_ 32 := constantI S_ 32 8#32
  let main_v3 : IVec S_ 32 := fn_remainder (F := F) main_arg2 main_c_1
  let main_c_2 : IVec S_ 32 := constantI S_ 32 0#32
  let main_v4 : IVec S_ 1 := cmpi .eq main_v3 main_c_2
  let main_v5 : IVec S_ 1 := andi main_v2 main_v4
  main_v5
-- ==== Kernel.lean ====
abbrev S1024x1024 : Shape := ⟨2, ![1024, 1024]⟩
abbrev S8192x1024 : Shape := ⟨2, ![8192, 1024]⟩
abbrev S_ : Shape := ⟨0, ![]⟩
abbrev S1 : Shape := ⟨1, ![1]⟩
abbrev S1x1 : Shape := ⟨2, ![1, 1]⟩
abbrev S2048x1024 : Shape := ⟨2, ![2048, 1024]⟩
abbrev S1024x1 : Shape := ⟨2, ![1024, 1]⟩
abbrev S1024 : Shape := ⟨1, ![1024]⟩
abbrev S1x1024x1 : Shape := ⟨3, ![1, 1024, 1]⟩
abbrev S1x1x1 : Shape := ⟨3, ![1, 1, 1]⟩

abbrev nBuf : Space → Nat
  | .hbm => 6
  | .vmem => 11
  | .smem => 1
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .i32⟩
  | .hbm, ⟨3, _⟩ => ⟨S1, .i32⟩
  | .hbm, ⟨4, _⟩ => ⟨S1x1, .f32⟩
  | .hbm, ⟨5, _⟩ => ⟨S_, .f32⟩
  | .local _ .vmem, ⟨0, _⟩ => ⟨S1024x1024, .f32⟩
  | .local _ .vmem, ⟨1, _⟩ => ⟨S2048x1024, .f32⟩
  | .local _ .vmem, ⟨2, _⟩ => ⟨S2048x1024, .f32⟩
  | .local _ .vmem, ⟨3, _⟩ => ⟨S1x1, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .smem, ⟨0, _⟩ => ⟨S1, .i32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (v84 : BitVec 32) : BitVec 32 :=
  v84

def k0_off1 (v84 : BitVec 32) : Fin 2 → Nat :=
  let v85 : BitVec 32 := v84
  let c0_i32_49 : BitVec 32 := 0#32
  ![v85.toNat, 0]

def k0_chk1 (i : grid0.Coords) (v84 : BitVec 32) : Prop :=
  (∀ (k0_h1 : k0_cond1 i = 1#1), 8 ∣ (k0_mult1 v84).toNat) ∧
  (∀ (k0_h1 : k0_cond1 i = 1#1), ∀ a, (k0_off1 v84) a + S1024x1024.size a ≤ S8192x1024.size a)
theorem k0_mult1_dvd : ∀ (i : grid0.Coords) (v84 : BitVec 32) (k0_hw1 : k0_chk1 i v84), ∀ (k0_h1 : k0_cond1 i = 1#1), 8 ∣ (k0_mult1 v84).toNat := fun i v84 k0_hw1 k0_h1 => k0_hw1.1 k0_h1
theorem k0_off1_inb : ∀ (i : grid0.Coords) (v84 : BitVec 32) (k0_hw1 : k0_chk1 i v84), ∀ (k0_h1 : k0_cond1 i = 1#1), ∀ a, (k0_off1 v84) a + S1024x1024.size a ≤ S8192x1024.size a := fun i v84 k0_hw1 k0_h1 => k0_hw1.2 k0_h1

def k0_cond2 (i : grid0.Coords) : BitVec 1 :=
  let arg0 : BitVec 32 := BitVec.ofNat 32 (i 0).val
  let c3_i32 : BitVec 32 := 3#32
  let v81 : BitVec 1 := Scalar.cmpi .eq arg0 c3_i32
  let v82 : BitVec 32 := Scalar.extui v81
  let c0_i32_47 : BitVec 32 := 0#32
  let v83 : BitVec 1 := Scalar.cmpi .ne v82 c0_i32_47
  v83

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== KernelIdeal.lean ====
variable {F : FTy → Type} [FloatOps F] [Named F]
def κ : String → Option EReal := fun
  | "inv_ln2" => some (((Real.log 2)⁻¹ : ℝ) : EReal)
  | "rows_log2e" => some ((1024 * (Real.log 2)⁻¹ : ℝ) : EReal)
  | "scale_log2e" => some ((((5368709 / 268435456) * (Real.log 2))⁻¹ : ℝ) : EReal)
  | _ => none
-- ==== ReferenceIdeal.lean ====
abbrev S1024x1024 : Shape := ⟨2, ![1024, 1024]⟩
abbrev S8192x1024 : Shape := ⟨2, ![8192, 1024]⟩
abbrev S_ : Shape := ⟨0, ![]⟩
abbrev S1024x8192 : Shape := ⟨2, ![1024, 8192]⟩
abbrev S1024 : Shape := ⟨1, ![1024]⟩
abbrev S1024x1 : Shape := ⟨2, ![1024, 1]⟩
abbrev S1024x2 : Shape := ⟨2, ![1024, 2]⟩

abbrev nBuf : Space → Nat
  | .hbm => 97
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S8192x1024, .f32⟩
  | .hbm, ⟨2, _⟩ => ⟨S_, .i32⟩
  | .hbm, ⟨3, _⟩ => ⟨S1024x8192, .f32⟩
  | .hbm, ⟨4, _⟩ => ⟨S1024x8192, .f32⟩
  | .hbm, ⟨5, _⟩ => ⟨S_, .f32⟩
  | .hbm, ⟨6, _⟩ => ⟨S1024x8192, .f32⟩
  | .hbm, ⟨7, _⟩ => ⟨S1024x8192, .f32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S_, .i32⟩
  | .hbm, ⟨12, _⟩ => ⟨S1024, .i32⟩
  | .hbm, ⟨13, _⟩ => ⟨S1024, .i1⟩
  | .hbm, ⟨14, _⟩ => ⟨S_, .i32⟩
  | .hbm, ⟨15, _⟩ => ⟨S1024, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i1⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S1024, .i32⟩
  | .hbm, ⟨25, _⟩ => ⟨S1024x1, .i32⟩
  | .hbm, ⟨26, _⟩ => ⟨S1024x1, .i32⟩
  | .hbm, ⟨27, _⟩ => ⟨S1024x2, .i32⟩
  | .hbm, ⟨28, _⟩ => ⟨S1024, .f32⟩
  | .hbm, ⟨29, _⟩ => ⟨S1024x1, .f32⟩
  | .hbm, ⟨30, _⟩ => ⟨S_, .f32⟩
  | .hbm, ⟨31, _⟩ => ⟨S1024x1, .f32⟩
  | .hbm, ⟨32, _⟩ => ⟨S1024x1, .f32⟩
  | .hbm, ⟨33, _⟩ => ⟨S1024x8192, .f32⟩
  | .hbm, ⟨34, _⟩ => ⟨S1024x8192, .i1⟩
  | .hbm, ⟨35, _⟩ => ⟨S_, .i32⟩
  | .hbm, ⟨36, _⟩ => ⟨S1024, .i32⟩
  | .hbm, ⟨37, _⟩ => ⟨S1024, .i1⟩
  | .hbm, ⟨38, _⟩ => ⟨S_, .i32⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024x1, .i32⟩
  | .hbm, ⟨50, _⟩ => ⟨S1024x1, .i32⟩
  | .hbm, ⟨51, _⟩ => ⟨S1024x2, .i32⟩
  | .hbm, ⟨52, _⟩ => ⟨S_, .i1⟩
  | .hbm, ⟨53, _⟩ => ⟨S1024, .i1⟩
  | .hbm, ⟨54, _⟩ => ⟨S1024x8192, .i1⟩
  | .hbm, ⟨55, _⟩ => ⟨S_, .f32⟩
  | .hbm, ⟨56, _⟩ => ⟨S1024x8192, .f32⟩
  | .hbm, ⟨57, _⟩ => ⟨S1024x8192, .f32⟩
  | .hbm, ⟨58, _⟩ => ⟨S1024x8192, .f32⟩
  | .hbm, ⟨59, _⟩ => ⟨S_, .f32⟩
  | .hbm, ⟨60, _⟩ => ⟨S1024, .f32⟩
  | .hbm, ⟨61, _⟩ => ⟨S_, .f32⟩
  | .hbm, ⟨62, _⟩ => ⟨S1024, .f32⟩
  | .hbm, ⟨63, _⟩ => ⟨S1024, .f32⟩
  | .hbm, ⟨64, _⟩ => ⟨S1024x1, .f32⟩
  | .hbm, ⟨65, _⟩ => ⟨S1024x8192, .f32⟩
  | .hbm, ⟨66, _⟩ => ⟨S1024x8192, .f32⟩
  | .hbm, ⟨67, _⟩ => ⟨S1024x8192, .f32⟩
  | .hbm, ⟨68, _⟩ => ⟨S_, .f32⟩
  | .hbm, ⟨69, _⟩ => ⟨S1024, .f32⟩
  | .hbm, ⟨70, _⟩ => ⟨S1024x1, .f32⟩
  | .hbm, ⟨71, _⟩ => ⟨S1024x1, .f32⟩
  | .hbm, ⟨72, _⟩ => ⟨S1024x8192, .f32⟩
  | .hbm, ⟨73, _⟩ => ⟨S1024x8192, .f32⟩
  | .hbm, ⟨74, _⟩ => ⟨S_, .i32⟩
  | .hbm, ⟨75, _⟩ => ⟨S1024, .i32⟩
  | .hbm, ⟨76, _⟩ => ⟨S1024, .i1⟩
  | .hbm, ⟨77, _⟩ => ⟨S_, .i32⟩
  | .hbm, ⟨78, _⟩ => ⟨S1024, .i32⟩
  | .hbm, ⟨79, _⟩ => ⟨S1024, .i32⟩
  | .hbm, ⟨80, _⟩ => ⟨S1024, .i32⟩
  | .hbm, ⟨81, _⟩ => ⟨S_, .i32⟩
  | .hbm, ⟨82, _⟩ => ⟨S1024, .i32⟩
  | .hbm, ⟨83, _⟩ => ⟨S1024, .i1⟩
  | .hbm, ⟨84, _⟩ => ⟨S_, .i32⟩
  | .hbm, ⟨85, _⟩ => ⟨S1024, .i32⟩
  | .hbm, ⟨86, _⟩ => ⟨S1024, .i32⟩
  | .hbm, ⟨87, _⟩ => ⟨S1024, .i32⟩
  | .hbm, ⟨88, _⟩ => ⟨S1024x1, .i32⟩
  | .hbm, ⟨89, _⟩ => ⟨S1024x1, .i32⟩
  | .hbm, ⟨90, _⟩ => ⟨S1024x2, .i32⟩
  | .hbm, ⟨91, _⟩ => ⟨S1024, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_4 : Ref sig .tc := ⟨.hbm, 35, rfl⟩
abbrev main_v26 : Ref sig .tc := ⟨.hbm, 36, rfl⟩
abbrev main_v27 : Ref sig .tc := ⟨.hbm, 37, rfl⟩
abbrev main_c_5 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_c_7 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_8 : Ref sig .tc := ⟨.hbm, 52, rfl⟩
abbrev main_v39 : Ref sig .tc := ⟨.hbm, 53, rfl⟩
abbrev main_v40 : Ref sig .tc := ⟨.hbm, 54, rfl⟩
abbrev main_cst_9 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call1_cst : Ref sig .tc := ⟨.hbm, 59, rfl⟩
abbrev main_call1_v0 : Ref sig .tc := ⟨.hbm, 60, rfl⟩
abbrev main_call1_cst_0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_cst_1 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_v44 : Ref sig .tc := ⟨.hbm, 73, rfl⟩
abbrev main_c_10 : Ref sig .tc := ⟨.hbm, 74, rfl⟩
abbrev main_v45 : Ref sig .tc := ⟨.hbm, 75, rfl⟩
abbrev main_v46 : Ref sig .tc := ⟨.hbm, 76, rfl⟩
abbrev main_c_11 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_c_12 : Ref sig .tc := ⟨.hbm, 81, rfl⟩
abbrev main_v50 : Ref sig .tc := ⟨.hbm, 82, rfl⟩
abbrev main_v51 : Ref sig .tc := ⟨.hbm, 83, rfl⟩
abbrev main_c_13 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_14 : Ref sig .tc := ⟨.hbm, 92, rfl⟩
abbrev main_v59 : Ref sig .tc := ⟨.hbm, 93, rfl⟩
abbrev main_cst_15 : Ref sig .tc := ⟨.hbm, 94, rfl⟩
abbrev main_v60 : Ref sig .tc := ⟨.hbm, 95, rfl⟩
abbrev main_v61 : Ref sig .tc := ⟨.hbm, 96, rfl⟩

abbrev nD : Nat := 1
abbrev τ : Topo := Topo.v7x

variable {F : FTy → Type} [FloatOps F]
-- ==== Proof.Offset.lean ====
/-
  The offset: what the preconditions say of its word.
-/
module

public import proofs.«01_k».proof.Defs
public import Idealize.ShloMosaic.Lib.WordCmp

@[expose] public section

set_option maxRecDepth 16384

noncomputable section

namespace Cert.Hand

open Idealize.ShloMosaic

/-- A word that the rows of the positives may start at: a multiple of eight, with 1024 rows of the table from it on. -/
def OffsetFits (w : BitVec 32) : Prop := 8 ∣ w.toNat ∧ w.toNat ≤ 7168

theorem ofBool_one (p : Bool) : (BitVec.ofBool p = 1#1) ↔ p = true := by cases p <;> decide

/-- The remainder by eight, as the precondition computes it, of a word that is not negative. -/
theorem rem8 (w : BitVec 32) (h0 : 0 ≤ w.toInt) : (w.srem 8#32).toNat = w.toNat % 8 := by
  have hm : w.msb = false := by
    rw [BitVec.msb_eq_toInt]; simpa using h0
  have hm8 : (8#32 : BitVec 32).msb = false := by decide
  rw [BitVec.srem_eq, hm, hm8]
  simp

theorem fits_of (w : BitVec 32) (h0 : IntOp.cmpi .sge w 0#32 = 1#1) (h1 : IntOp.cmpi .sle w 7168#32 = 1#1)
    (h2 : w.srem 8#32 = 0#32) : OffsetFits w := by
  rw [WordCmp.cmpi_sge_eq, ofBool_one] at h0
  rw [WordCmp.cmpi_sle_eq, ofBool_one] at h1
  simp only [decide_eq_true_eq] at h0 h1
  have h0' : 0 ≤ w.toInt := by simpa using h0
  have hr := rem8 w h0'
  rw [h2] at hr
  refine ⟨Nat.dvd_of_mod_eq_zero (by simpa using hr.symm), ?_⟩
  have : (7168#32 : BitVec 32).toInt = 7168 := by decide
  rw [this] at h1
  have e : w.toInt = w.toNat := by
    rw [BitVec.toInt_eq_toNat_cond] at h0' ⊢
    split at h0' <;> rename_i hh
    · rw [if_pos hh]
    · exfalso; have := w.isLt; omega
  omega

theorem and_one (a b : BitVec 1) : IntOp.andi a b = 1#1 ↔ a = 1#1 ∧ b = 1#1 := by
  revert a b; decide

/-- The divisor of the remainder, as the precondition guards it. -/
theorem guard8 : Scalar.select (IntOp.cmpi .eq 8#32 0#32) 1#32 8#32 = 8#32 := by decide

/-- The remainder, its sign put right, is zero only if the plain one is. -/
theorem rem_fix : ∀ k : Fin 8, IntOp.cmpi .eq (Scalar.select
      (IntOp.andi (IntOp.cmpi .ne (IntOp.cmpi .slt (BitVec.ofNat 32 k.val) 0#32) (IntOp.cmpi .slt 8#32 0#32)) (IntOp.cmpi .ne (BitVec.ofNat 32 k.val) 0#32))
      (IntOp.addi (BitVec.ofNat 32 k.val) 8#32) (BitVec.ofNat 32 k.val)) 0#32 = 1#1 → k = 0 := by decide

/-- The precondition's conditions on a word, taken together. -/
theorem fits_of_words (w : BitVec 32) (h0 : IntOp.cmpi .sge w 0#32 = 1#1) (h1 : IntOp.cmpi .sle w 7168#32 = 1#1)
    (h2 : IntOp.cmpi .eq (Scalar.select
      (IntOp.andi (IntOp.cmpi .ne (IntOp.cmpi .slt (IntOp.remsi .host w 8#32) 0#32) (IntOp.cmpi .slt 8#32 0#32)) (IntOp.cmpi .ne (IntOp.remsi .host w 8#32) 0#32))
      (IntOp.addi (IntOp.remsi .host w 8#32) 8#32) (IntOp.remsi .host w 8#32)) 0#32 = 1#1) : OffsetFits w := by
  have hr : IntOp.remsi .host w 8#32 = w.srem 8#32 := by
    unfold IntOp.remsi; rw [if_neg (by rintro (h | ⟨-, h⟩) <;> revert h <;> decide)]
  have h0' : 0 ≤ w.toInt := by
    have h := h0; rw [WordCmp.cmpi_sge_eq, ofBool_one] at h; simpa using h
  have hk : w.srem 8#32 = BitVec.ofNat 32 (w.toNat % 8) := by
    apply BitVec.eq_of_toNat_eq; rw [rem8 w h0', BitVec.toNat_ofNat]; omega
  rw [hr, hk] at h2
  have h3 := rem_fix ⟨w.toNat % 8, Nat.mod_lt _ (by decide)⟩ h2
  refine fits_of w h0 h1 ?_
  rw [hk, show w.toNat % 8 = 0 from congrArg Fin.val h3]

/-- What the first precondition says of the offset. -/
theorem fits_of_in_table {F : FTy → Type} [FloatOps F] (a : FVec F Pre_offset_in_table.S1024x1024 .f32) (b : FVec F Pre_offset_in_table.S8192x1024 .f32)
    (o : IVec Pre_offset_in_table.S_ 32) (h : Pre_offset_in_table.fn a b o = fun _ => 1#1) (i : Pre_offset_in_table.S_.Idx) : OffsetFits (o i) := by
  have e := congrFun h i
  simp only [Pre_offset_in_table.fn, Pre_offset_in_table.fn_remainder, Pre_offset_in_table.fn_where, andi, cmpi, constantI, select, addi, Host.remsi, id,
    guard8, and_one] at e
  exact fits_of_words _ e.1.1 e.1.2 e.2

/-- What the second precondition says of the offset. -/
theorem fits_of_finite_and_in_table [Pre_finite_and_in_table.Facts] {F : FTy → Type} [FloatOps F] (a : FVec F Pre_finite_and_in_table.S1024x1024 .f32)
    (b : FVec F Pre_finite_and_in_table.S8192x1024 .f32) (o : IVec Pre_finite_and_in_table.S_ 32)
    (h0 : (Pre_finite_and_in_table.fn a b o).2.2.1 = fun _ => 1#1) (h1 : (Pre_finite_and_in_table.fn a b o).2.2.2.1 = fun _ => 1#1)
    (h2 : (Pre_finite_and_in_table.fn a b o).2.2.2.2 = fun _ => 1#1) (i : Pre_finite_and_in_table.S_.Idx) : OffsetFits (o i) := by
  have e0 := congrFun h0 i
  have e1 := congrFun h1 i
  have e2 := congrFun h2 i
  simp only [Pre_finite_and_in_table.fn, Pre_finite_and_in_table.fn_remainder, Pre_finite_and_in_table.fn_where, andi, cmpi, constantI, select, addi,
    Host.remsi, id, guard8] at e0 e1 e2
  exact fits_of_words _ e0 e1 e2

end Cert.Hand

end
-- ==== Proof.IdealBody.lean ====
/-
  The kernel's body at the three kinds of grid step, for any element type family: the first step, which scales the
  queries, copies the rows of the positives out of the table and starts the running maximum and sum; a middle step;
  and the last step, which also folds in the block still pending and writes the result.  Each is one run of the body
  over its buffers held whole, handing them back at named contents.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

/-! ## What one step does to the running values -/

/-- The running maximum after the block left pending by the step before. -/
def midMax (i : grid0.Coords) (sb : Vec F S1024x1024 .f32) (pos mx : Vec F S1024x1 .f32) : Vec F S1024x1 .f32 :=
  k0_pay18 (k0_pay14 i sb pos mx)
/-- The running sum after the block left pending by the step before. -/
def midSum (i : grid0.Coords) (sb : Vec F S1024x1024 .f32) (pos mx l : Vec F S1024x1 .f32) : Vec F S1024x1 .f32 :=
  k0_pay17 (Scalar.cmpi .sge (BitVec.ofNat 32 (i 0).val) 1#32) (k0_pay15 i sb pos mx) (k0_pay16 i sb pos mx l)
/-- The scores of the first half of the step's rows of the table. -/
def loScores (qs : Vec F S1024x1024 .f32) (d : Vec F S2048x1024 .f32) : Vec F S1024x1024 .f32 :=
  k0_pay12 qs (View.ld d (Rect.unit (s := S2048x1024) ![0, 0] S1024x1024.size inb_S2048x1024_S1024x1024_0_0))
/-- The scores of the second half of the step's rows of the table. -/
def hiScores (qs : Vec F S1024x1024 .f32) (d : Vec F S2048x1024 .f32) : Vec F S1024x1024 .f32 :=
  k0_pay19 qs (View.ld d (Rect.unit (s := S2048x1024) ![1024, 0] S1024x1024.size inb_S2048x1024_S1024x1024_1024_0))
/-- The running maximum after a block whose scores are `s`. -/
def blkMax (s : Vec F S1024x1024 .f32) (pos mx : Vec F S1024x1 .f32) : Vec F S1024x1 .f32 := k0_pay2 (k0_pay21 s pos mx)
/-- The running sum after a block whose scores are `s`. -/
def blkSum (s : Vec F S1024x1024 .f32) (pos mx l : Vec F S1024x1 .f32) : Vec F S1024x1 .f32 :=
  k0_pay1 mx (k0_pay21 s pos mx) (k0_pay22 s pos mx) l
/-- The running maximum a step leaves, from the queries, its rows of the table, the block pending before it and the running values before it. -/
def stepMax (i : grid0.Coords) (qs : Vec F S1024x1024 .f32) (d : Vec F S2048x1024 .f32) (sb : Vec F S1024x1024 .f32)
    (pos mx : Vec F S1024x1 .f32) : Vec F S1024x1 .f32 :=
  blkMax (loScores qs d) pos (midMax i sb pos mx)
/-- The running sum a step leaves. -/
def stepSum (i : grid0.Coords) (qs : Vec F S1024x1024 .f32) (d : Vec F S2048x1024 .f32) (sb : Vec F S1024x1024 .f32)
    (pos mx l : Vec F S1024x1 .f32) : Vec F S1024x1 .f32 :=
  blkSum (loScores qs d) pos (midMax i sb pos mx) (midSum i sb pos mx l)

/-- The result the last step writes, from the positives' scores and the running values the step leaves once the block
    still pending is folded in. -/
def lastOut (sb : Vec F S1024x1024 .f32) (pos mx l : Vec F S1024x1 .f32) : Vec F S1x1 .f32 :=
  k0_pay3 pos (k0_pay7 sb pos mx) (k0_pay6 sb pos mx l)

/-! ## The body's operands -/

abbrev scQ : Memref sig .tc .vmem S1024x1024 .f32 := Memref.whole cc0_scratch0
abbrev scD : Memref sig .tc .vmem S1024x1024 .f32 := Memref.whole cc0_scratch1
abbrev scA : Memref sig .tc .vmem S1024x1024 .f32 := Memref.whole cc0_scratch2
abbrev scB : Memref sig .tc .vmem S1024x1024 .f32 := Memref.whole cc0_scratch3
abbrev scP : Memref sig .tc .vmem S1024x1 .f32 := Memref.whole cc0_scratch4
abbrev scM : Memref sig .tc .vmem S1024x1 .f32 := Memref.whole cc0_scratch5
abbrev scL : Memref sig .tc .vmem S1024x1 .f32 := Memref.whole cc0_scratch6
abbrev tab : Memref sig .tc .hbm S8192x1024 .f32 := Memref.whole main_arg1

/-- Reading a whole buffer back after a store of the whole of it gives what was stored last. -/
theorem readCov_top {S : Shape} {e : EltTy} {Val : EltTy → Type} [∀ e, Nonempty (Val e)] {sg : RefSig} {κ : Kind} {sp : Space} (v : View sg κ sp S e)
    {off off' : Fin S.rank → Nat} (h : off = fun _ => 0) (h' : off' = fun _ => 0) (inb : ∀ a, off a + S.size a ≤ S.size a)
    (inb' : ∀ a, off' a + S.size a ≤ S.size a) (w : S.Idx → Val e) (L : List (View.Piece Val S e)) :
    v.readCov ((⟨Rect.unit off S.size inb, w⟩ : View.Piece Val S e) :: L) (Rect.unit off' S.size inb').toLoadRect = w := by
  subst h; subst h'
  rw [View.readCov_eq_canon_ld _ _ _ (fun y => ⟨_, List.mem_cons_self, by
    show y ∈ (Rect.whole S).set; rw [Rect.set_whole]; exact Finset.mem_univ y⟩), View.canon_cons_unit_zero rfl, View.ld_unit_zero rfl]

/-- A memref owned whole at contents `d`. -/
abbrev ow (c : Dev nD) {sp : Space} {S : Shape} {e : EltTy} (M : Memref sig .tc sp S e) (d : S.Idx → Elt F e) : sProp 𝕄 :=
  owns (c : Thread nD τ) M fullShare d

/-- The word a one-word block of scalar memory holds. -/
abbrev wordOf (o : S1.Idx → Elt F .i32) : BitVec 32 := o (Shape.Idx.first (by decide))

/-- The rows of the table from row `w` on, 1024 of them (the table's first rows when they do not all exist). -/
def rowsFrom (w : BitVec 32) (g : Vec F S8192x1024 .f32) : Vec F S1024x1024 .f32 :=
  if h : ∀ a, (k0_off1 w) a + S1024x1024.size a ≤ S8192x1024.size a then
    View.ld g (Rect.unit (s := S8192x1024) (k0_off1 w) S1024x1024.size h)
  else View.ld g (Rect.unit (s := S8192x1024) ![0, 0] S1024x1024.size (by decide))

/-- The scores of the positives, from the scaled queries, the word the offset is read from and the table. -/
def posOf (qs : Vec F S1024x1024 .f32) (w : BitVec 32) (g : Vec F S8192x1024 .f32) : Vec F S1024x1 .f32 :=
  k0_pay9 qs (rowsFrom w g)

theorem hz1 : (![0] : Fin 1 → Nat) = fun _ => 0 := by decide
theorem hz : (![0, 0] : Fin 2 → Nat) = fun _ => 0 := by decide

/-- The body of the kernel over its staged operands. -/
abbrev bodyOf (i : grid0.Coords) (a1 : Memref sig .tc .smem S1 .i32) (h1 : a1.IsWhole) (a2 : Memref sig .tc .vmem S1024x1024 .f32) (h2 : a2.IsWhole)
    (a3 : Memref sig .tc .vmem S2048x1024 .f32) (h3 : a3.IsWhole) (a5 : Memref sig .tc .vmem S1x1 .f32) (h5 : a5.IsWhole) :
    Prog (TpuEff nD τ sig (Elt F) Λ₀ .tc) PUnit :=
  cc0__body i a1 h1 a2 h2 a3 h3 tab (Memref.isWhole_whole _) a5 h5 scQ (Memref.isWhole_whole _) scD (Memref.isWhole_whole _)
    scA (Memref.isWhole_whole _) scB (Memref.isWhole_whole _) scP (Memref.isWhole_whole _) scM (Memref.isWhole_whole _)
    scL (Memref.isWhole_whole _) cc0_scratch7

/-- The rows from `w` on, when they all exist. -/
theorem rowsFrom_pos (w : BitVec 32) (g : Vec F S8192x1024 .f32) (h : ∀ a, (k0_off1 w) a + S1024x1024.size a ≤ S8192x1024.size a) :
    rowsFrom w g = View.ld g (Rect.unit (s := S8192x1024) (k0_off1 w) S1024x1024.size h) := by
  unfold rowsFrom; rw [dif_pos h]

/-- What the copy of the positives' rows lands, read back: those rows. -/
theorem readCov_rows (w : BitVec 32) (g : BufTy.Contents (Elt F) (View.whole main_arg1).ty) (h : ∀ a, (![w.toNat, 0] : Fin 2 → Nat) a + (![1024, 1024] : Fin 2 → Nat) a ≤ S8192x1024.size a)
    (h2 : ∀ a, (![0, 0] : Fin 2 → Nat) a + (![1024, 1024] : Fin 2 → Nat) a ≤ S1024x1024.size a) :
    (View.whole cc0_scratch1).readCov [⟨Rect.whole S1024x1024, ReadAs.same.apply (View.read (Elt F)
        ((View.whole main_arg1).slice (Rect.unit (s := S8192x1024) ![w.toNat, 0] ![1024, 1024] h)) g)⟩]
      (Rect.unit (s := S1024x1024) ![0, 0] ![1024, 1024] h2).toLoadRect
      = rowsFrom w (View.read (Elt F) (View.whole main_arg1) g) := by
  rw [rowsFrom_pos w _ h]
  exact readCov_top (S := S1024x1024) (View.whole cc0_scratch1) rfl hz (fun _ => by simp) h2 _ []

/-- A middle step: the queries, the positives' scores and the rows of the table stay; the running maximum and sum and
    the pending block move on. -/
theorem body_mid (c : Dev nD) (i : grid0.Coords) (a1 : Memref sig .tc .smem S1 .i32) (h1 : a1.IsWhole) (a2 : Memref sig .tc .vmem S1024x1024 .f32) (h2 : a2.IsWhole)
    (a3 : Memref sig .tc .vmem S2048x1024 .f32) (h3 : a3.IsWhole) (a5 : Memref sig .tc .vmem S1x1 .f32) (h5 : a5.IsWhole)
    (hc1 : ¬ k0_cond1 i = 1#1) (hc2 : ¬ k0_cond2 i = 1#1)
    (d : S2048x1024.Idx → Elt F .f32) (qs sb : S1024x1024.Idx → Elt F .f32) (pos mx l : S1024x1.Idx → Elt F .f32)
    (K : PUnit → sProp 𝕄) :
    iprop(ow c a3 d ∗ ow c scQ qs ∗ (∃ x, ow c scA x) ∗ ow c scB sb ∗ ow c scP pos ∗ ow c scM mx ∗ ow c scL l
        ∗ (iprop(ow c a3 d ∗ ow c scQ qs ∗ (∃ x, ow c scA x) ∗ ow c scB (hiScores qs d) ∗ ow c scP pos
              ∗ ow c scM (stepMax i qs d sb pos mx) ∗ ow c scL (stepSum i qs d sb pos mx l)) -∗ K ⟨⟩))
      ⊢ wp frame (wpE (defs₀ (F := F)) Variants.none c none) Set.univ (bodyOf i a1 h1 a2 h2 a3 h3 a5 h5) K := by
  unfold bodyOf; rw [cc0__body_eq_skeleton]; unfold cc0__body_skel
  rw [k0_part2_eq_skeleton, k0_part3_eq_skeleton]; unfold k0_part2_skel k0_part3_skel
  unfold ow owns
  iintro ⟨⟨%f3, %e3, H3⟩, ⟨%fQ, %eQ, HQ⟩, ⟨%xA, %fA, -, HA⟩, ⟨%fB, %eB, HB⟩, ⟨%fP, %eP, HP⟩, ⟨%fM, %eM, HM⟩, ⟨%fL, %eL, HL⟩, Hk⟩
  subst e3 eQ eB eP eM eL
  sl_exec
  sl_step
  iapply Hk
  isplitl [H3]
  · iexists _; isplitr; swap
    · iexact H3
    · ipureintro; rfl
  isplitl [HQ]
  · iexists _; isplitr; swap
    · iexact HQ
    · ipureintro; rfl
  isplitl [HA]
  · iexists _, _; isplitr; swap
    · iexact HA
    · ipureintro; rfl
  isplitl [HB]
  · iexists _; isplitr; swap
    · iexact HB
    · ipureintro
      refine (View.read_writes_full (s := S1024x1024) _ _ _ _ _).trans ?_
      sl_unfold_words
      simp only [stepMax, stepSum, blkMax, blkSum, loScores, hiScores, midMax, midSum, posOf, lastOut, readCov_rows, readCov_top (S := S1024x1) _ hz hz, readCov_top (S := S1024x1024) _ hz hz, View.readAt_eq_ld, View.ld_unit_zero (S := S1024x1024) hz, View.ld_unit_zero (S := S1024x1) hz, View.ld_unit_zero (S := S1) hz1] <;> with_reducible rfl
  isplitl [HP]
  · iexists _; isplitr; swap
    · iexact HP
    · ipureintro; rfl
  isplitl [HM]
  · iexists _; isplitr; swap
    · iexact HM
    · ipureintro
      refine (View.read_writes_full (s := S1024x1) _ _ _ _ _).trans ?_
      sl_unfold_words
      simp only [stepMax, stepSum, blkMax, blkSum, loScores, hiScores, midMax, midSum, posOf, lastOut, readCov_rows, readCov_top (S := S1024x1) _ hz hz, readCov_top (S := S1024x1024) _ hz hz, View.readAt_eq_ld, View.ld_unit_zero (S := S1024x1024) hz, View.ld_unit_zero (S := S1024x1) hz, View.ld_unit_zero (S := S1) hz1] <;> with_reducible rfl
  iexists _; isplitr; swap
  · iexact HL
  · ipureintro
    refine (View.read_writes_full (s := S1024x1) _ _ _ _ _).trans ?_
    sl_unfold_words
    simp only [stepMax, stepSum, blkMax, blkSum, loScores, hiScores, midMax, midSum, posOf, lastOut, readCov_rows, readCov_top (S := S1024x1) _ hz hz, readCov_top (S := S1024x1024) _ hz hz, View.readAt_eq_ld, View.ld_unit_zero (S := S1024x1024) hz, View.ld_unit_zero (S := S1024x1) hz, View.ld_unit_zero (S := S1) hz1] <;> with_reducible rfl

end Cert.KernelIdeal.Hand

end
-- ==== Proof.IdealFirst.lean ====
/-
  The kernel's body at the first grid step.
-/
module

public import proofs.«01_k».proof.Proof.IdealBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

/-- The first step: the queries scaled, the positives' rows copied out of the table and their scores taken, the running
    maximum and sum started, then a step as any other (the block pending before it being whatever the buffer held). -/
theorem body_first (c : Dev nD) (i : grid0.Coords) (a1 : Memref sig .tc .smem S1 .i32) (h1 : a1.IsWhole) (a2 : Memref sig .tc .vmem S1024x1024 .f32) (h2 : a2.IsWhole)
    (a3 : Memref sig .tc .vmem S2048x1024 .f32) (h3 : a3.IsWhole) (a5 : Memref sig .tc .vmem S1x1 .f32) (h5 : a5.IsWhole)
    (hc1 : k0_cond1 i = 1#1) (hc2 : ¬ k0_cond2 i = 1#1)
    (o : S1.Idx → Elt F .i32) (hw : k0_chk1 i (wordOf o))
    (q : S1024x1024.Idx → Elt F .f32) (d : S2048x1024.Idx → Elt F .f32)
    (g : Buf (Elt F) (tab.view.loc (c : Thread nD τ))) (W : Waits sig Unit) (K : PUnit → sProp 𝕄) :
    iprop(ow c a1 o ∗ ow c a2 q ∗ ow c a3 d ∗ (tab.view.loc (c : Thread nD τ) ↦[tab.view.set]{fullShare.right} g)
        ∗ (∃ x, ow c scQ x) ∗ (∃ x, ow c scD x) ∗ (∃ x, ow c scA x) ∗ (∃ x, ow c scB x)
        ∗ (∃ x, ow c scP x) ∗ (∃ x, ow c scM x) ∗ (∃ x, ow c scL x)
        ∗ semVal ((c : Thread nD τ), SemLoc.dma 5) 0 ∗ owes (c : Thread nD τ) 0 W
        ∗ (iprop(ow c a1 o ∗ ow c a2 q ∗ ow c a3 d ∗ (tab.view.loc (c : Thread nD τ) ↦[tab.view.set]{fullShare.right} g)
            ∗ ow c scQ (k0_pay8 q) ∗ (∃ x, ow c scD x) ∗ (∃ x, ow c scA x) ∗ ow c scB (hiScores (k0_pay8 q) d)
            ∗ ow c scP (posOf (k0_pay8 q) (wordOf o) (tab.view.read (Elt F) g))
            ∗ (∃ sb, ow c scM (stepMax i (k0_pay8 q) d sb (posOf (k0_pay8 q) (wordOf o) (tab.view.read (Elt F) g)) k0_pay10)
                ∗ ow c scL (stepSum i (k0_pay8 q) d sb (posOf (k0_pay8 q) (wordOf o) (tab.view.read (Elt F) g)) k0_pay10 k0_pay11))
            ∗ semVal ((c : Thread nD τ), SemLoc.dma 5) 0 ∗ ∃ W', owes (c : Thread nD τ) 0 W') -∗ K ⟨⟩))
      ⊢ wp frame (wpE (defs₀ (F := F)) Variants.none c none) Set.univ (bodyOf i a1 h1 a2 h2 a3 h3 a5 h5) K := by
  unfold bodyOf; rw [cc0__body_eq_skeleton]; unfold cc0__body_skel
  rw [k0_part2_eq_skeleton, k0_part3_eq_skeleton]; unfold k0_part2_skel k0_part3_skel
  unfold ow owns
  iintro ⟨⟨%f1, %e1, H1⟩, ⟨%f2, %e2, H2⟩, ⟨%f3, %e3, H3⟩, HG, ⟨%xQ, %fQ, -, HQ⟩, ⟨%xD, %fD, -, HD⟩, ⟨%xA, %fA, -, HA⟩, ⟨%xB, %fB, -, HB⟩,
    ⟨%xP, %fP, -, HP⟩, ⟨%xM, %fM, -, HM⟩, ⟨%xL, %fL, -, HL⟩, HS, HW, Hk⟩
  subst e1 e2 e3
  have ew : a1.view.readAt (Elt F) (Rect.unit (s := S1) ![0] S1.size inb_S1_S1_0).toLoadRect f1 (Shape.Idx.first (by decide))
      = wordOf (a1.view.read (Elt F) f1) := by
    rw [View.readAt_eq_ld, View.ld_unit_zero (S := S1) hz1]
  have hw' : k0_chk1 i (a1.view.readAt (Elt F) (Rect.unit (s := S1) ![0] S1.size inb_S1_S1_0).toLoadRect f1 (Shape.Idx.first (by decide))) := by
    rw [ew]; exact hw
  have hD := (readCov_rows (F := F) (View.ld (a1.view.read (Elt F) f1) (Rect.unit (s := S1) ![0] ![1] inb_S1_S1_0) (Shape.Idx.first (by decide))) g
    (hw'.2 hc1) inb_S1024x1024_S1024x1024_0_0).trans (congrArg (fun w => rowsFrom w (View.read (Elt F) (View.whole main_arg1) g)) ew)
  sl_exec
  sl_step
  iapply Hk
  isplitl [H1]
  · iexists _; isplitr; swap
    · iexact H1
    · ipureintro; rfl
  isplitl [H2]
  · iexists _; isplitr; swap
    · iexact H2
    · ipureintro; rfl
  isplitl [H3]
  · iexists _; isplitr; swap
    · iexact H3
    · ipureintro; rfl
  isplitl [HG]; · iexact HG
  isplitl [HQ]
  · iexists _; isplitr; swap
    · iexact HQ
    · ipureintro
      refine (View.read_writes_full (s := S1024x1024) _ _ _ _ _).trans ?_
      sl_unfold_words
      simp only [stepMax, stepSum, blkMax, blkSum, loScores, hiScores, midMax, midSum, posOf, lastOut, readCov_rows, readCov_top (S := S1024x1) _ hz hz, readCov_top (S := S1024x1024) _ hz hz, View.readAt_eq_ld, View.ld_unit_zero (S := S1024x1024) hz, View.ld_unit_zero (S := S1024x1) hz, View.ld_unit_zero (S := S1) hz1]
  isplitl [HD]
  · iexists _, _; isplitr; swap
    · iexact HD
    · ipureintro; rfl
  isplitl [HA]
  · iexists _, _; isplitr; swap
    · iexact HA
    · ipureintro; rfl
  isplitl [HB]
  · iexists _; isplitr; swap
    · iexact HB
    · ipureintro
      refine (View.read_writes_full (s := S1024x1024) _ _ _ _ _).trans ?_
      sl_unfold_words
      simp only [readCov_top (S := S1024x1) _ hz hz, readCov_top (S := S1024x1024) _ hz hz, View.readAt_eq_ld, View.ld_unit_zero (S := S1024x1024) hz, View.ld_unit_zero (S := S1024x1) hz, View.ld_unit_zero (S := S1) hz1]
      rfl
  isplitl [HP]
  · iexists _; isplitr; swap
    · iexact HP
    · ipureintro
      refine (View.read_writes_full (s := S1024x1) _ _ _ _ _).trans ?_
      sl_unfold_words
      simp only [readCov_top (S := S1024x1) _ hz hz, readCov_top (S := S1024x1024) _ hz hz, View.readAt_eq_ld, View.ld_unit_zero (S := S1024x1024) hz, View.ld_unit_zero (S := S1024x1) hz, View.ld_unit_zero (S := S1) hz1]
      rfl
  isplitl [HM HL]
  · iexists (scB.view.read (Elt F) fB)
    isplitl [HM]
    · iexists _; isplitr; swap
      · iexact HM
      · ipureintro
        refine (View.read_writes_full (s := S1024x1) _ _ _ _ _).trans ?_
        sl_unfold_words
        simp only [readCov_top (S := S1024x1) _ hz hz, readCov_top (S := S1024x1024) _ hz hz, View.readAt_eq_ld, View.ld_unit_zero (S := S1024x1024) hz, View.ld_unit_zero (S := S1024x1) hz, View.ld_unit_zero (S := S1) hz1]
        rfl
    iexists _; isplitr; swap
    · iexact HL
    · ipureintro
      refine (View.read_writes_full (s := S1024x1) _ _ _ _ _).trans ?_
      sl_unfold_words
      simp only [readCov_top (S := S1024x1) _ hz hz, readCov_top (S := S1024x1024) _ hz hz, View.readAt_eq_ld, View.ld_unit_zero (S := S1024x1024) hz, View.ld_unit_zero (S := S1024x1) hz, View.ld_unit_zero (S := S1) hz1]
      rfl
  isplitl [HS]; · iexact HS
  iexists _; iexact HW

end Cert.KernelIdeal.Hand

end
-- ==== Proof.IdealLast.lean ====
/-
  The kernel's body at the last grid step.
-/
module

public import proofs.«01_k».proof.Proof.IdealBody
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Tactic
public import Idealize.ShloMosaic.Lib.VecWindow
public import Idealize.ShloMosaic.Lib.Pipeline.Value

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

/-- The last step: a step as any other, then the block it leaves pending folded in too, and the result written. -/
theorem body_last (c : Dev nD) (i : grid0.Coords) (a1 : Memref sig .tc .smem S1 .i32) (h1 : a1.IsWhole) (a2 : Memref sig .tc .vmem S1024x1024 .f32) (h2 : a2.IsWhole)
    (a3 : Memref sig .tc .vmem S2048x1024 .f32) (h3 : a3.IsWhole) (a5 : Memref sig .tc .vmem S1x1 .f32) (h5 : a5.IsWhole)
    (hc1 : ¬ k0_cond1 i = 1#1) (hc2 : k0_cond2 i = 1#1)
    (d : S2048x1024.Idx → Elt F .f32) (qs sb : S1024x1024.Idx → Elt F .f32) (pos mx l : S1024x1.Idx → Elt F .f32)
    (K : PUnit → sProp 𝕄) :
    iprop(ow c a3 d ∗ (∃ x, ow c a5 x) ∗ ow c scQ qs ∗ (∃ x, ow c scA x) ∗ ow c scB sb ∗ ow c scP pos ∗ ow c scM mx ∗ ow c scL l
        ∗ (iprop(ow c a3 d ∗ ow c a5 (lastOut (hiScores qs d) pos (stepMax i qs d sb pos mx) (stepSum i qs d sb pos mx l))
              ∗ ow c scQ qs ∗ (∃ x, ow c scA x) ∗ (∃ x, ow c scB x) ∗ ow c scP pos
              ∗ (∃ x, ow c scM x) ∗ (∃ x, ow c scL x)) -∗ K ⟨⟩))
      ⊢ wp frame (wpE (defs₀ (F := F)) Variants.none c none) Set.univ (bodyOf i a1 h1 a2 h2 a3 h3 a5 h5) K := by
  unfold bodyOf; rw [cc0__body_eq_skeleton]; unfold cc0__body_skel
  rw [k0_part2_eq_skeleton, k0_part3_eq_skeleton, k0_part1_eq_skeleton]; unfold k0_part2_skel k0_part3_skel k0_part1_skel
  unfold ow owns
  iintro ⟨⟨%f3, %e3, H3⟩, ⟨%x5, %f5, -, H5⟩, ⟨%fQ, %eQ, HQ⟩, ⟨%xA, %fA, -, HA⟩, ⟨%fB, %eB, HB⟩, ⟨%fP, %eP, HP⟩, ⟨%fM, %eM, HM⟩, ⟨%fL, %eL, HL⟩, Hk⟩
  subst e3 eQ eB eP eM eL
  sl_exec
  sl_step
  iapply Hk
  isplitl [H3]
  · iexists _; isplitr; swap
    · iexact H3
    · ipureintro; rfl
  isplitl [H5]
  · iexists _; isplitr; swap
    · iexact H5
    · ipureintro
      refine (View.read_writes_full (s := S1x1) _ _ _ _ _).trans ?_
      sl_unfold_words
      simp only [stepMax, stepSum, blkMax, blkSum, loScores, hiScores, midMax, midSum, posOf, lastOut, readCov_rows, readCov_top (S := S1024x1) _ hz hz, readCov_top (S := S1024x1024) _ hz hz, View.readAt_eq_ld, View.ld_unit_zero (S := S1024x1024) hz, View.ld_unit_zero (S := S1024x1) hz, View.ld_unit_zero (S := S1) hz1] <;> with_reducible rfl
  isplitl [HQ]
  · iexists _; isplitr; swap
    · iexact HQ
    · ipureintro; rfl
  isplitl [HA]
  · iexists _, _; isplitr; swap
    · iexact HA
    · ipureintro; rfl
  isplitl [HB]
  · iexists _, _; isplitr; swap
    · iexact HB
    · ipureintro; rfl
  isplitl [HP]
  · iexists _; isplitr; swap
    · iexact HP
    · ipureintro; rfl
  isplitl [HM]
  · iexists _, _; isplitr; swap
    · iexact HM
    · ipureintro; rfl
  iexists _, _; isplitr; swap
  · iexact HL
  · ipureintro; rfl

end Cert.KernelIdeal.Hand

end
-- ==== Proof.IdealRun.lean ====
/-
  The launch, for any element type family: the host operation that reshapes the offset, the kernel's pipeline of four
  grid steps, and the host operation that reshapes the result.  From any memory whose counters are zero and whose offset
  word the kernel's own check admits, every weakly fair execution of the program terminates, leaving the arguments as they were,
  the result at named contents and every counter at zero.
-/
module

public import proofs.«01_k».proof.Proof.IdealFirst
public import proofs.«01_k».proof.Proof.IdealLast
public import proofs.«01_k».proof.Proof.Gen.KernelIdeal.Frame
public import Idealize.ShloMosaic.Lib.Pipeline.Regions

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

/-- The staging protocol's part of the algebra. -/
abbrev EP : Emb (UR sig nD τ) 𝕄 := embL

variable (m : (ℓ : Loc nD τ sig) → Buf (Elt F) ℓ) (ρ : Dev nD → PrngReg)

/-! ## The running values -/

/-- The `n`-th grid step (the last from there on). -/
def stepAt (n : ℕ) : Fin cfg0.N := if n = 0 then t0_0 else if n = 1 then t0_1 else if n = 2 then t0_2 else t0_3

/-- The queries' block. -/
def qBlk (c : Dev nD) : Vec F S1024x1024 .f32 := iblk m c 1 t0_0
/-- The offset's word. -/
def offWord (c : Dev nD) : BitVec 32 := wordOf (iblk m c 0 t0_0 : S1.Idx → Elt F .i32)
/-- The table's rows at the `n`-th step. -/
def dBlk (c : Dev nD) (n : ℕ) : Vec F S2048x1024 .f32 := iblk m c 2 (stepAt n)
/-- The scaled queries. -/
def qsOf (c : Dev nD) : Vec F S1024x1024 .f32 := k0_pay8 (qBlk m c)
/-- The positives' scores. -/
def posV (c : Dev nD) : Vec F S1024x1 .f32 := posOf (qsOf m c) (offWord m c) (tab.view.read (Elt F) (V m c main_arg1))

/-- The block pending before the `n`-th step. -/
def stB (c : Dev nD) : ℕ → Vec F S1024x1024 .f32
  | 0 => qsOf m c
  | n + 1 => hiScores (qsOf m c) (dBlk m c n)
/-- The running maximum before the `n`-th step. -/
def stM (c : Dev nD) : ℕ → Vec F S1024x1 .f32
  | 0 => k0_pay10
  | n + 1 => stepMax (grid0.coords (stepAt n)) (qsOf m c) (dBlk m c n) (stB m c n) (posV m c) (stM c n)
/-- The running sum before the `n`-th step. -/
def stL (c : Dev nD) : ℕ → Vec F S1024x1 .f32
  | 0 => k0_pay11
  | n + 1 => stepSum (grid0.coords (stepAt n)) (qsOf m c) (dBlk m c n) (stB m c n) (posV m c) (stM m c n) (stL c n)
/-- What the last step writes. -/
def resV (c : Dev nD) : Vec F S1x1 .f32 := lastOut (stB m c 4) (posV m c) (stM m c 4) (stL m c 4)

omit [FloatOps F] [Named F] in
theorem select_zero {s : Shape} (x y : FVec F s .f32) : Scalar.select 0#1 x y = y := rfl

/-- At the first step the block pending does not count. -/
theorem sge_first (i : grid0.Coords) (hi : (i 0).val = 0) : Scalar.cmpi .sge (BitVec.ofNat 32 (i 0).val) 1#32 = 0#1 := by
  rw [hi]; decide

/-- At the first step the running maximum does not depend on the block pending. -/
theorem stepMax_first (i : grid0.Coords) (hi : (i 0).val = 0) (qs : Vec F S1024x1024 .f32) (d : Vec F S2048x1024 .f32)
    (sb sb' : Vec F S1024x1024 .f32) (pos mx : Vec F S1024x1 .f32) : stepMax i qs d sb pos mx = stepMax i qs d sb' pos mx := by
  have h : k0_pay14 i sb pos mx = k0_pay14 i sb' pos mx := by
    unfold k0_pay14; dsimp only; simp only [sge_first i hi, select_zero]
  unfold stepMax midMax; rw [h]

/-- At the first step the running sum does not depend on the block pending. -/
theorem stepSum_first (i : grid0.Coords) (hi : (i 0).val = 0) (qs : Vec F S1024x1024 .f32) (d : Vec F S2048x1024 .f32)
    (sb sb' : Vec F S1024x1024 .f32) (pos mx l : Vec F S1024x1 .f32) : stepSum i qs d sb pos mx l = stepSum i qs d sb' pos mx l := by
  have h : k0_pay14 i sb pos mx = k0_pay14 i sb' pos mx := by
    unfold k0_pay14; dsimp only; simp only [sge_first i hi, select_zero]
  have h' : midSum i sb pos mx l = midSum i sb' pos mx l := by
    unfold midSum k0_pay16 k0_pay17; dsimp only; simp only [sge_first i hi, select_zero, h]
  unfold stepSum midMax; rw [h, h']

/-! ## The pipeline's proof data -/

/-- What the body holds beside the windows: the table's right half and the transfer's counter at zero. -/
def Φrest (c : Dev nD) : sProp 𝕄 :=
  iprop((tab.view.loc (c : Thread nD τ) ↦[tab.view.set]{fullShare.right} V m c main_arg1) ∗ semVal ((c : Thread nD τ), SemLoc.dma 5) 0)

/-- The scratch buffers at anything. -/
def ΦAny (c : Dev nD) : sProp 𝕄 :=
  iprop((∃ x, ow c scQ x) ∗ (∃ x, ow c scD x) ∗ (∃ x, ow c scA x) ∗ (∃ x, ow c scB x)
        ∗ (∃ x, ow c scP x) ∗ (∃ x, ow c scM x) ∗ (∃ x, ow c scL x) ∗ Φrest m c)

/-- The scratch buffers before the `n`-th step. -/
def ΦAt (c : Dev nD) (n : ℕ) : sProp 𝕄 :=
  iprop(ow c scQ (qsOf m c) ∗ (∃ x, ow c scD x) ∗ (∃ x, ow c scA x) ∗ ow c scB (stB m c n)
        ∗ ow c scP (posV m c) ∗ ow c scM (stM m c n) ∗ ow c scL (stL m c n) ∗ Φrest m c)

/-- The invariant before the `n`-th step: before the first and after the last the scratch buffers hold anything. -/
def ΦN (c : Dev nD) (n : ℕ) : sProp 𝕄 := if n = 0 ∨ n = 4 then ΦAny m c else ΦAt m c n

/-- The proof data: the arrays as the launch finds them; a window's staging buffer after the body the block it held, the
    result's the result; half of the table with the pipeline, half with the body. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => resV m c
  Φ t := ΦN m c t.val
  q w := match w with
    | ⟨2, _⟩ => fullShare.left
    | _ => fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = resV m c := by dsimp only [dats]
theorem Φ_eq (c : Dev nD) (t : Fin (cfg0.N + 1)) : (dats m 0 c).Φ t = ΦN m c t.val := by dsimp only [dats]
theorem owed_eq (c : Dev nD) (t : Fin (cfg0.N + 1)) : (dats m 0 c).owed t = 0 := by dsimp only [dats]

abbrev 𝒱₀ : Variants := Variants.none

theorem before0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)

/-! ## The body at each step -/

/-- What the body is handed at a step. -/
def bodyPre (c : Dev nD) (t : Fin cfg0.N) : sProp 𝕄 :=
  iprop((dats m 0 c).Φ t.castSucc ∗ (dats m 0 c).owesAt () t.castSucc
    ∗ (∃ d, ow c (st0_0 t) ((dats m 0 c).before 0 t d)) ∗ (∃ d, ow c (st0_1 t) ((dats m 0 c).before 1 t d))
    ∗ (∃ d, ow c (st0_2 t) ((dats m 0 c).before 2 t d)) ∗ (∃ d, ow c (st0_3 t) ((dats m 0 c).before 3 t d)))
/-- What it leaves. -/
def bodyPost (c : Dev nD) (t : Fin cfg0.N) : sProp 𝕄 :=
  iprop((dats m 0 c).Φ t.succ ∗ (dats m 0 c).owesAt () t.succ
    ∗ ow c (st0_0 t) ((dats m 0 c).after 0 t) ∗ ow c (st0_1 t) ((dats m 0 c).after 1 t)
    ∗ ow c (st0_2 t) ((dats m 0 c).after 2 t) ∗ (dats m 0 c).leavesExact 3 t)

theorem bodyAt_eq (t : Fin cfg0.N) : bodyAt0 (F := F) t = bodyOf (grid0.coords t) (st0_0 t) (hstage0_0 ((cfg0.slots t 0).cast nbuf0_0))
    (st0_1 t) (hstage0_1 ((cfg0.slots t 1).cast nbuf0_1)) (st0_2 t) (hstage0_2 ((cfg0.slots t 2).cast nbuf0_2))
    (st0_3 t) (hstage0_3 ((cfg0.slots t 3).cast nbuf0_3)) := rfl

/-- The kernel's check of the offset it reads at the first step. -/
abbrev OffOk (c : Dev nD) : Prop := k0_chk1 (grid0.coords t0_0) (offWord m c)

theorem body_at_first (c : Dev nD) (hoff : OffOk m c) :
    bodyPre m c t0_0 ⊢ wp frame (wpE (defs₀ (F := F)) Variants.none c none) Set.univ (bodyAt0 t0_0) (fun _ => bodyPost m c t0_0) := by
  unfold bodyPre bodyPost
  rw [bodyAt_eq, Φ_eq, Φ_eq, after0_0, after0_1, after0_2, (dats m 0 c).leavesExact_idle 3 t0_0 (by decide) (by decide)]
  rw [show ΦN m c (t0_0.castSucc : Fin (cfg0.N + 1)).val = ΦAny m c from if_pos (Or.inl rfl),
    show ΦN m c (t0_0.succ : Fin (cfg0.N + 1)).val = ΦAt m c 1 from if_neg (by decide)]
  unfold ΦAny ΦAt Φrest Dat.owesAt Pipeline.owesWithin
  rw [owed_eq, owed_eq]
  iintro ⟨⟨HQ, HD, HA, HB, HP, HM, HL, HG, HS⟩, ⟨%W, -, HW⟩, ⟨%d0, H0⟩, ⟨%d1, H1⟩, ⟨%d2, H2⟩, ⟨%d3, H3⟩⟩
  rw [before0, before1, before2]
  iapply (body_first c (grid0.coords t0_0) (st0_0 t0_0) _ (st0_1 t0_0) _ (st0_2 t0_0) _ (st0_3 t0_0) _ (by decide) (by decide) _ hoff _ _ _ W _)
  isplitl [H0]; · iexact H0
  isplitl [H1]; · iexact H1
  isplitl [H2]; · iexact H2
  isplitl [HG]; · iexact HG
  isplitl [HQ]; · iexact HQ
  isplitl [HD]; · iexact HD
  isplitl [HA]; · iexact HA
  isplitl [HB]; · iexact HB
  isplitl [HP]; · iexact HP
  isplitl [HM]; · iexact HM
  isplitl [HL]; · iexact HL
  isplitl [HS]; · iexact HS
  isplitl [HW]; · iexact HW
  iintro ⟨H0, H1, H2, HG, HQ, HD, HA, HB, HP, ⟨%sb, HM, HL⟩, HS, ⟨%W', HW⟩⟩
  rw [stepMax_first (grid0.coords t0_0) (by decide) _ _ sb (qsOf m c) _ _, stepSum_first (grid0.coords t0_0) (by decide) _ _ sb (qsOf m c) _ _ _]
  isplitl [HQ HD HA HB HP HM HL HG HS]
  · isplitl [HQ]; · iexact HQ
    isplitl [HD]; · iexact HD
    isplitl [HA]; · iexact HA
    isplitl [HB]; · iexact HB
    isplitl [HP]; · iexact HP
    isplitl [HM]; · iexact HM
    isplitl [HL]; · iexact HL
    isplitl [HG]; · iexact HG
    iexact HS
  isplitl [HW]
  · iexists W'; isplitr; · ipureintro; exact fun _ _ => Or.inl trivial
    iexact HW
  isplitl [H0]; · iexact H0
  isplitl [H1]; · iexact H1
  isplitl [H2]; · iexact H2
  iexists d3; iexact H3

/-- A middle step, the `n`-th. -/
theorem body_at_mid (c : Dev nD) (t : Fin cfg0.N) (n : ℕ) (ht : stepAt n = t) (hn : t.val = n) (hn' : 0 < n ∧ n < 3)
    (hc1 : ¬ k0_cond1 (grid0.coords t) = 1#1) (hc2 : ¬ k0_cond2 (grid0.coords t) = 1#1)
    (hi : cfg0.idle 3 (cfg0.grid.coords t) = true) (hf : (cfg0.win 3).flush t = false) :
    bodyPre m c t ⊢ wp frame (wpE (defs₀ (F := F)) Variants.none c none) Set.univ (bodyAt0 t) (fun _ => bodyPost m c t) := by
  unfold bodyPre bodyPost
  rw [bodyAt_eq, Φ_eq, Φ_eq, after0_0, after0_1, after0_2, (dats m 0 c).leavesExact_idle 3 t hi hf]
  rw [show ΦN m c (t.castSucc : Fin (cfg0.N + 1)).val = ΦAt m c n from by rw [Fin.val_castSucc, hn]; exact if_neg (by omega),
    show ΦN m c (t.succ : Fin (cfg0.N + 1)).val = ΦAt m c (n + 1) from by rw [Fin.val_succ, hn]; exact if_neg (by omega)]
  unfold ΦAt Φrest Dat.owesAt Pipeline.owesWithin
  rw [owed_eq, owed_eq]
  iintro ⟨⟨HQ, HD, HA, HB, HP, HM, HL, HG, HS⟩, ⟨%W, -, HW⟩, ⟨%d0, H0⟩, ⟨%d1, H1⟩, ⟨%d2, H2⟩, ⟨%d3, H3⟩⟩
  rw [before0, before1, before2]
  iapply (body_mid c (grid0.coords t) (st0_0 t) _ (st0_1 t) _ (st0_2 t) _ (st0_3 t) _ hc1 hc2 _ _ _ _ _ _ _)
  isplitl [H2]; · iexact H2
  isplitl [HQ]; · iexact HQ
  isplitl [HA]; · iexact HA
  isplitl [HB]; · iexact HB
  isplitl [HP]; · iexact HP
  isplitl [HM]; · iexact HM
  isplitl [HL]; · iexact HL
  iintro ⟨H2, HQ, HA, HB, HP, HM, HL⟩
  rw [show (stM m c (n + 1)) = stepMax (grid0.coords t) (qsOf m c) (iblk m c 2 t) (stB m c n) (posV m c) (stM m c n) from by rw [← ht]; rfl,
    show (stL m c (n + 1)) = stepSum (grid0.coords t) (qsOf m c) (iblk m c 2 t) (stB m c n) (posV m c) (stM m c n) (stL m c n) from by rw [← ht]; rfl,
    show (stB m c (n + 1)) = hiScores (qsOf m c) (iblk m c 2 t) from by rw [← ht]; rfl]
  isplitl [HQ HD HA HB HP HM HL HG HS]
  · isplitl [HQ]; · iexact HQ
    isplitl [HD]; · iexact HD
    isplitl [HA]; · iexact HA
    isplitl [HB]; · iexact HB
    isplitl [HP]; · iexact HP
    isplitl [HM]; · iexact HM
    isplitl [HL]; · iexact HL
    isplitl [HG]; · iexact HG
    iexact HS
  isplitl [HW]
  · iexists W; isplitr; · ipureintro; exact fun _ _ => Or.inl trivial
    iexact HW
  isplitl [H0]; · iexact H0
  isplitl [H1]; · iexact H1
  isplitl [H2]; · iexact H2
  iexists d3; iexact H3

theorem body_at_last (c : Dev nD) :
    bodyPre m c t0_3 ⊢ wp frame (wpE (defs₀ (F := F)) Variants.none c none) Set.univ (bodyAt0 t0_3) (fun _ => bodyPost m c t0_3) := by
  unfold bodyPre bodyPost
  rw [bodyAt_eq, Φ_eq, Φ_eq, after0_0, after0_1, after0_2]
  rw [show (dats m 0 c).leavesExact 3 t0_3 = ow c (st0_3 t0_3) (resV m c) from by
    unfold Dat.leavesExact; rw [show cfg0.idle 3 (cfg0.grid.coords t0_3) = false from by decide]; rw [after0_3]]
  rw [show ΦN m c (t0_3.castSucc : Fin (cfg0.N + 1)).val = ΦAt m c 3 from if_neg (by decide),
    show ΦN m c (t0_3.succ : Fin (cfg0.N + 1)).val = ΦAny m c from if_pos (Or.inr rfl)]
  unfold ΦAt ΦAny Φrest Dat.owesAt Pipeline.owesWithin
  rw [owed_eq, owed_eq]
  iintro ⟨⟨HQ, HD, HA, HB, HP, HM, HL, HG, HS⟩, ⟨%W, -, HW⟩, ⟨%d0, H0⟩, ⟨%d1, H1⟩, ⟨%d2, H2⟩, ⟨%d3, H3⟩⟩
  rw [before0, before1, before2]
  iapply (body_last c (grid0.coords t0_3) (st0_0 t0_3) _ (st0_1 t0_3) _ (st0_2 t0_3) _ (st0_3 t0_3) _ (by decide) (by decide) _ _ _ _ _ _ _)
  isplitl [H2]; · iexact H2
  isplitl [H3]; · iexists _; iexact H3
  isplitl [HQ]; · iexact HQ
  isplitl [HA]; · iexact HA
  isplitl [HB]; · iexact HB
  isplitl [HP]; · iexact HP
  isplitl [HM]; · iexact HM
  isplitl [HL]; · iexact HL
  iintro ⟨H2, H3, HQ, HA, HB, HP, HM, HL⟩
  isplitl [HQ HD HA HB HP HM HL HG HS]
  · isplitl [HQ]; · iexists _; iexact HQ
    isplitl [HD]; · iexact HD
    isplitl [HA]; · iexact HA
    isplitl [HB]; · iexact HB
    isplitl [HP]; · iexists _; iexact HP
    isplitl [HM]; · iexact HM
    isplitl [HL]; · iexact HL
    isplitl [HG]; · iexact HG
    iexact HS
  isplitl [HW]
  · iexists W; isplitr; · ipureintro; exact fun _ _ => Or.inl trivial
    iexact HW
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

/-- The pipeline's obligation of the body, step by step. -/
theorem body_obligation (c : Dev nD) (hoff : OffOk m c) : BodyObligation (dats (F := F) m 0 c) (defs₀ (F := F)) Variants.none () Set.univ := fun t => by
  rw [bigSep_W0, bigSep_W0, defs₀_row]
  have h : bodyPre m c t ⊢ wp frame (wpE (defs₀ (F := F)) Variants.none c none) Set.univ (bodyAt0 t) (fun _ => bodyPost m c t) := by
    rcases fin_N0 t with rfl | rfl | rfl | rfl
    · exact body_at_first m c hoff
    · exact body_at_mid m c t0_1 1 rfl rfl (by decide) (by decide) (by decide) (by decide) (by decide)
    · exact body_at_mid m c t0_2 2 rfl rfl (by decide) (by decide) (by decide) (by decide) (by decide)
    · exact body_at_last m c
  exact triple_restated h rfl .rfl fun _ => .rfl

end Cert.KernelIdeal.Hand

end
-- ==== Proof.IdealLaunch.lean ====
/-
  The launch, for any element type family: the host operation that reshapes the offset, the kernel's pipeline, and the
  host operation that reshapes the result.  From any memory whose counters are zero and whose offset word the kernel's own
  check admits, every weakly fair execution of the program terminates, leaving the arguments as they were, the result at
  named contents and every counter at zero.
-/
module

public import proofs.«01_k».proof.Proof.IdealRun
public import proofs.«01_k».proof.Proof.Gen.KernelIdeal.Frame
public import Idealize.ShloMosaic.Lib.Pipeline.Regions

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

variable (m : (ℓ : Loc nD τ sig) → Buf (Elt F) ℓ) (ρ : Dev nD → PrngReg)

/-! ## The buffers one by one -/

/-- The unscoped buffers: the windows' arrays, then the other two. -/
theorem ub_eq (c : Dev nD) (W : (b : Ref sig .tc) → Buf (Elt F) ((c : Thread nD τ).loc b)) :
    (unscopedBufs c W : sProp 𝕄) = iprop(((((c : Thread nD τ).loc main_v0) ↦{fullShare} W main_v0)
        ∗ (((c : Thread nD τ).loc main_arg0) ↦{fullShare} W main_arg0)
        ∗ (((c : Thread nD τ).loc main_arg1) ↦{fullShare} W main_arg1)
        ∗ (((c : Thread nD τ).loc main_v1) ↦{fullShare} W main_v1))
      ∗ (((c : Thread nD τ).loc main_arg2) ↦{fullShare} W main_arg2) ∗ (((c : Thread nD τ).loc main_v2) ↦{fullShare} W main_v2)) := by
  rw [Pipeline.unscopedBufs_split cfgs 0 winFacts0.arr_unscoped winFacts0.arr_inj c W, bigSep_W0]
  exact congrArg (fun P => iprop(_ ∗ P)) (unscopedRest0_eq c W)

/-- The pipeline's arrays: the table at half a share, the others whole. -/
theorem arrays_chain (c : Dev nD) (G : (w : Fin cfg0.W) → Buf (Elt F) ((cfg0.win w).arr.view.loc (c : Thread nD τ))) :
    ((dats m 0 c).arrays G : sProp 𝕄) = iprop((((c : Thread nD τ).loc main_v0) ↦{fullShare} G 0)
        ∗ (((c : Thread nD τ).loc main_arg0) ↦{fullShare} G 1)
        ∗ (((c : Thread nD τ).loc main_arg1) ↦{fullShare.left} G 2)
        ∗ (((c : Thread nD τ).loc main_v1) ↦{fullShare} G 3)) := by
  have e0 : (cfg0.win 0).arr.view.set = Finset.univ := View.set_whole _
  have e1 : (cfg0.win 1).arr.view.set = Finset.univ := View.set_whole _
  have e2 : (cfg0.win 2).arr.view.set = Finset.univ := View.set_whole _
  have e3 : (cfg0.win 3).arr.view.set = Finset.univ := View.set_whole _
  unfold Dat.arrays
  rw [bigSep_W0, e0, e1, e2, e3]
  rfl

/-- The right half of the table, as the body holds it. -/
theorem tab_right (c : Dev nD) (g : Buf (Elt F) ((c : Thread nD τ).loc main_arg1)) :
    ((tab.view.loc (c : Thread nD τ) ↦[tab.view.set]{fullShare.right} g) : sProp 𝕄)
      = (((c : Thread nD τ).loc main_arg1) ↦{fullShare.right} g) := by
  rw [show tab.view.set = Finset.univ from View.set_whole _]

/-- The whole share of the table is its two halves. -/
theorem tab_halves (c : Dev nD) (g : Buf (Elt F) ((c : Thread nD τ).loc main_arg1)) :
    ((((c : Thread nD τ).loc main_arg1) ↦{fullShare} g : sProp 𝕄))
      ⊣⊢ iprop((((c : Thread nD τ).loc main_arg1) ↦{fullShare.left} g) ∗ (((c : Thread nD τ).loc main_arg1) ↦{fullShare.right} g)) :=
  pointsTo_share (PosShare.mem_left_op_right fullShare)

/-! ## The segments -/

/-- The transfer's counter. -/
abbrev osem : Fin 1 → SemLoc sig := fun _ => SemLoc.dma 5
theorem ownSemFacts : Pipeline.OwnSemFacts spec0 osem := by decide

theorem ownSems0_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma 5) 0 :=
  Pipeline.ownSems0_eq_of_list c osem [0] (by decide) (by decide)

abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers. -/
abbrev R (c : Dev nD) : sProp 𝕄 := iprop(∃ W, owes (c : Thread nD τ) (0 : CellTallies nD τ sig Unit) W)

/-- The buffers after the pipeline: as before it but for the result block. -/
def Vf (c : Dev nD) : Valuation τ sig (Elt F) :=
  Function.update (V0 m c) (Proc.devRef .tc main_v1) ((dats m 0 c).arrAt 3 cfg0.N)

theorem Vf_v1 (c : Dev nD) : Vf m c (Proc.devRef .tc main_v1) = (dats m 0 c).arrAt 3 cfg0.N := by
  unfold Vf; exact Function.update_self _ _ _
theorem Vf_ne (c : Dev nD) (b : Ref sig .tc) (h : b ≠ main_v1) : Vf m c (Proc.devRef .tc b) = V m c b := by
  unfold Vf; exact Function.update_of_ne (StableHlo.devRef_ne_of_ne h) _ _

def seg0 : Pipeline.HostSeg (Name := ℕ) (U := Pipeline.UD sig nD τ) (pcfgs (F := F)) defs₀ 𝒱₀ L lv :=
  Pipeline.HostSeg.ofOps _ _ _ _ _ (Pipeline.ucRefs τ sig) hostOps0 (fun op h => Pipeline.sub_ucRefs op ((List.forall_iff_forall_mem.mp hostOps0_sub) op h))
    (fun op h => (List.forall_iff_forall_mem.mp hostOps0_fresh) op h) (fun c b => m (c, b)) R

def seg1 : Pipeline.HostSeg (Name := ℕ) (U := Pipeline.UD sig nD τ) (pcfgs (F := F)) defs₀ 𝒱₀ L lv :=
  Pipeline.HostSeg.ofOps _ _ _ _ _ (Pipeline.ucRefs τ sig) hostOps1 (fun op h => Pipeline.sub_ucRefs op ((List.forall_iff_forall_mem.mp hostOps1_sub) op h))
    (fun op h => (List.forall_iff_forall_mem.mp hostOps1_fresh) op h) (Vf m) R

theorem Φ_first (c : Dev nD) : (dats m 0 c).Φ 0 = ΦAny m c := by rw [Φ_eq]; exact if_pos (Or.inl rfl)
theorem Φ_last (c : Dev nD) : (dats m 0 c).Φ (Fin.last cfg0.N) = ΦAny m c := by rw [Φ_eq]; exact if_pos (Or.inr N_0)

set_option backward.isDefEq.respectTransparency.types false in
/-- The kernel's pipeline as a segment of the program. -/
def reg0 (hoff : ∀ c, OffOk m c) : Pipeline.RegionSeg (pcfgs (F := F)) adm (dats m) () defs₀ 𝒱₀ L lv 0 where
  win := launch0.win.to₀
  block_pos := launch0.block_pos
  stage_whole := launch0.stage_whole
  K := Fin 1
  osem := osem
  ho := ownSemFacts
  hbody c := (body_obligation m c (hoff c)).loose
  hwaits := Pipeline.hwaits_of_owed_zero _ _ _ _ L lv 0 fun _ _ => rfl
  pre c := iprop(StableHlo.held (c : Thread nD τ) (Pipeline.ucRefs τ sig) (StableHlo.after hostOps0 (fun b => m (c, b))) ∗ R c)
  post c := iprop(StableHlo.held (c : Thread nD τ) (Pipeline.ucRefs τ sig) (Vf m c) ∗ R c)
  X c := Φrest m c
  Y c := iprop(((c : Thread nD τ).loc main_arg1) ↦{fullShare.right} V m c main_arg1)
  Z c := iprop((((c : Thread nD τ).loc main_arg2) ↦{fullShare} V m c main_arg2) ∗ (((c : Thread nD τ).loc main_v2) ↦{fullShare} V m c main_v2))
  hentry c := by
    rw [show StableHlo.held (c : Thread nD τ) (Pipeline.ucRefs τ sig) (StableHlo.after hostOps0 (fun b => m (c, b))) = unscopedBufs c (V m c)
      from (Pipeline.unscopedBufs_held c _).symm, ownSems0_eq, ub_eq, arrays_chain]
    unfold Φrest; rw [tab_right]
    iintro ⟨⟨⟨⟨Hv0, Ha0, Ha1, Hv1⟩, Ha2, Hv2⟩, HO⟩, Hos, -⟩
    ihave Ha1 := (tab_halves c _).1 $$ Ha1
    icases Ha1 with ⟨Hal, Har⟩
    imodintro
    isplitl [Hv0 Ha0 Hal Hv1]
    · isplitl [Hv0]; · iexact Hv0
      isplitl [Ha0]; · iexact Ha0
      isplitl [Hal]; · iexact Hal
      iexact Hv1
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Har Hos]
    · isplitl [Har]; · iexact Har
      iexact Hos
    isplitl [Ha2]; · iexact Ha2
    iexact Hv2
  hin c := by
    rw [show (dats m 0 c).Φ 0 = ΦAny m c from Φ_first m c, show Pipeline.scopedRest (Pipeline.pin (pcfgs (F := F)) adm 0).spec c = _ from scopedRest0_eq c]; unfold ΦAny
    iintro ⟨HX, -, HQ, HD, HA, HB, HP, HM, HL⟩
    simp only [ow, owns_whole_eq]
    isplitl [HQ]; · icases HQ with ⟨%f, H⟩; iexists f, f; isplitr; swap; (· iexact H); ipureintro; rfl
    isplitl [HD]; · icases HD with ⟨%f, H⟩; iexists f, f; isplitr; swap; (· iexact H); ipureintro; rfl
    isplitl [HA]; · icases HA with ⟨%f, H⟩; iexists f, f; isplitr; swap; (· iexact H); ipureintro; rfl
    isplitl [HB]; · icases HB with ⟨%f, H⟩; iexists f, f; isplitr; swap; (· iexact H); ipureintro; rfl
    isplitl [HP]; · icases HP with ⟨%f, H⟩; iexists f, f; isplitr; swap; (· iexact H); ipureintro; rfl
    isplitl [HM]; · icases HM with ⟨%f, H⟩; iexists f, f; isplitr; swap; (· iexact H); ipureintro; rfl
    isplitl [HL]; · icases HL with ⟨%f, H⟩; iexists f, f; isplitr; swap; (· iexact H); ipureintro; rfl
    iexact HX
  hout c := by
    rw [ownSems0_eq, show (dats m 0 c).Φ (Fin.last cfg0.N) = ΦAny m c from Φ_last m c, show Pipeline.scopedRest (Pipeline.pin (pcfgs (F := F)) adm 0).spec c = _ from scopedRest0_eq c]; unfold ΦAny Φrest
    rw [tab_right]
    simp only [ow, owns_whole_eq]
    iintro ⟨⟨%xQ, %fQ, -, HQ⟩, ⟨%xD, %fD, -, HD⟩, ⟨%xA, %fA, -, HA⟩, ⟨%xB, %fB, -, HB⟩, ⟨%xP, %fP, -, HP⟩, ⟨%xM, %fM, -, HM⟩, ⟨%xL, %fL, -, HL⟩, HG, HS⟩
    isplitl [HG]; · iexact HG
    isplitl [HS]; · iexact HS
    isplitl [HQ]; · iexists _; iexact HQ
    isplitl [HD]; · iexists _; iexact HD
    isplitl [HA]; · iexists _; iexact HA
    isplitl [HB]; · iexists _; iexact HB
    isplitl [HP]; · iexists _; iexact HP
    isplitl [HM]; · iexists _; iexact HM
    iexists _; iexact HL
  hexit c := by
    rw [show StableHlo.held (c : Thread nD τ) (Pipeline.ucRefs τ sig) (Vf m c) = unscopedBufs c (fun b => Vf m c (Proc.devRef .tc b))
      from (Pipeline.unscopedBufs_held c _).symm, ub_eq, arrays_chain]
    rw [Vf_v1, Vf_ne m c main_v0 (by decide), Vf_ne m c main_arg0 (by decide), Vf_ne m c main_arg1 (by decide),
      Vf_ne m c main_arg2 (by decide), Vf_ne m c main_v2 (by decide)]
    rw [show (dats m 0 c).arrAt 0 cfg0.N = V m c main_v0 from ((dats m 0 c).arrAt_in 0 rfl _).trans (A_eq m c 0),
      show (dats m 0 c).arrAt 1 cfg0.N = V m c main_arg0 from ((dats m 0 c).arrAt_in 1 rfl _).trans (A_eq m c 1),
      show (dats m 0 c).arrAt 2 cfg0.N = V m c main_arg1 from ((dats m 0 c).arrAt_in 2 rfl _).trans (A_eq m c 2)]
    iintro ⟨⟨Hv0, Ha0, Hal, Hv1⟩, HO, Har, Ha2, Hv2⟩
    imodintro
    isplitr [HO]
    · isplitl [Hv0 Ha0 Hal Har Hv1]
      · isplitl [Hv0]; · iexact Hv0
        isplitl [Ha0]; · iexact Ha0
        isplitl [Hal Har]
        · iapply (tab_halves c _).2
          isplitl [Hal]; · iexact Hal
          iexact Har
        iexact Hv1
      isplitl [Ha2]; · iexact Ha2
      iexact Hv2
    · unfold Pipeline.Dat.owesAt Pipeline.owesWithin
      icases HO with ⟨%W, -, HO⟩; iexists W; iexact HO

/-- The program as the list of its segments. -/
abbrev segs (hoff : ∀ c, OffOk m c) : List (Pipeline.Seg (pcfgs (F := F)) adm (dats m) () defs₀ 𝒱₀ L lv) :=
  [.host (seg0 m), .region (reg0 m hoff), .host (seg1 m)]

/-! ## The run -/

/-- The buffers when the program ends. -/
def Vend (c : Dev nD) : Valuation τ sig (Elt F) := StableHlo.after hostOps1 (Vf m c)

/-- The result. -/
def resEnd (c : Dev nD) : Buf (Elt F) ((c : Thread nD τ).loc main_v2) := Vend m c (Proc.devRef .tc main_v2)

theorem Vend_ne (c : Dev nD) (b : Ref sig .tc) (h : b ≠ main_v2) (h' : b ≠ main_v1) : Vend m c (Proc.devRef .tc b) = V m c b := by
  unfold Vend
  rw [StableHlo.after_of_forall_not_mem (b := Proc.devRef .tc b) hostOps1 (Vf m c) (by
    intro op hop
    simp only [List.mem_cons, List.mem_nil_iff, or_false] at hop
    subst hop
    simp only [StableHlo.reshape_writes, Finset.mem_singleton]
    exact StableHlo.devRef_ne_of_ne h)]
  exact Vf_ne m c b h'

set_option backward.isDefEq.respectTransparency.types false in
/-- From any memory with zero counters whose offset word passes the kernel's check, every weakly fair execution of the
    program terminates; at the end the arguments are as they were, the result is `resEnd` and every counter is zero. -/
theorem run_main (hoff : ∀ c, OffOk m c) : θ_run defs (onTc (τ := τ) (main (F := F))) (s₀ m ρ) (fun r =>
    (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_v2) = resEnd m c) ∧ r.2.sem = fun _ => 0) :=
  Pipeline.θ_run_regions_kit_sems (pcfgs (F := F)) adm (dats m) () cellOf_inj EP defs₀ 𝒱₀ L lv m ρ main (segs m hoff)
    (fun c Q => by rw [main_segs adm (dats m) () 𝒱₀ L lv (seg0 m) (seg1 m) (reg0 m hoff) rfl rfl c])
    (by simp only [Pipeline.Seg.pipes_host, Pipeline.Seg.pipes_region, Pipeline.Seg.pipes_nil]; decide) (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => StableHlo.held (c : Thread nD τ) (Pipeline.ucRefs τ sig) (Vend m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, -, -⟩, -⟩
      imodintro
      isplitl [Hh]; · iexact Hh
      iexists ∅; iexact HO)
    (QY := fun c s => s.mem ((c : Thread nD τ).loc main_arg0) = m ((c : Thread nD τ).loc main_arg0)
      ∧ s.mem ((c : Thread nD τ).loc main_arg1) = m ((c : Thread nD τ).loc main_arg1)
      ∧ s.mem ((c : Thread nD τ).loc main_arg2) = m ((c : Thread nD τ).loc main_arg2)
      ∧ s.mem ((c : Thread nD τ).loc main_v2) = resEnd m c)
    (hfin := fun c s' => by
      rw [show StableHlo.held (c : Thread nD τ) (Pipeline.ucRefs τ sig) (Vend m c) = unscopedBufs c (fun b => Vend m c (Proc.devRef .tc b))
        from (Pipeline.unscopedBufs_held c _).symm, ub_eq]
      rw [Vend_ne m c main_arg0 (by decide) (by decide), Vend_ne m c main_arg1 (by decide) (by decide), Vend_ne m c main_arg2 (by decide) (by decide),
        V_main_arg0, V_main_arg1, V_main_arg2]
      iintro ⟨⟨⟨-, Ha0, Ha1, -⟩, Ha2, Hv2⟩, HSI⟩
      icombine HSI Ha0 gives %h0
      icombine HSI Ha1 gives %h1
      icombine HSI Ha2 gives %h2
      icombine HSI Hv2 gives %h3
      imodintro
      isplitr
      · ipureintro
        exact ⟨Buf.eq_of_forall_mem_univ h0, Buf.eq_of_forall_mem_univ h1, Buf.eq_of_forall_mem_univ h2, Buf.eq_of_forall_mem_univ h3⟩
      iexact HSI)
    (hQ := fun _ h hz => ⟨h, funext fun g => hz g (.inr (by revert g; decide))⟩)

end Cert.KernelIdeal.Hand

end
-- ==== Proof.IdealOffset.lean ====
/-
  The kernel's check of the offset, from what the precondition says of its word, and the frame from that.
-/
module

public import proofs.«01_k».proof.Proof.IdealLaunch
public import proofs.«01_k».proof.Proof.Offset
public import Idealize.ShloMosaic.Lib.Claim
public import proofs.«01_k».proof.Proof.Gen.KernelIdeal.Frame
public import Idealize.ShloMosaic.Lib.Pipeline.Regions

@[expose] public section

set_option maxRecDepth 16384
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The proof's resource algebra: the pipeline's staging protocol beside the counters of the body's own transfer. -/
local notation "𝕄" => MT nD τ sig Unit (Elt F) ℕ (Pipeline.UD sig nD τ) ℕ

variable (m : (ℓ : Loc nD τ sig) → Buf (Elt F) ℓ) (ρ : Dev nD → PrngReg)

/-- The word the kernel reads its offset from is the offset argument's. -/
theorem offWord_eq (c : Dev nD) : ∃ i, offWord m c = (m ((c : Thread nD τ).loc main_arg2) : S_.Idx → BitVec 32) i := by
  unfold offWord wordOf iblk
  rw [View.read_apply]
  entry_read
  exact ⟨_, rfl⟩

theorem offOk (c : Dev nD) (h : ∀ i, Cert.Hand.OffsetFits ((m ((c : Thread nD τ).loc main_arg2) : S_.Idx → BitVec 32) i)) : OffOk m c := by
  obtain ⟨i, e⟩ := offWord_eq m c
  unfold OffOk
  rw [e]
  obtain ⟨h8, hle⟩ := h i
  refine ⟨fun _ => h8, fun _ a => ?_⟩
  unfold k0_off1
  fin_cases a
  · show (BitVec.toNat _) + 1024 ≤ 8192; omega
  · show 0 + 1024 ≤ 1024; omega

end Cert.KernelIdeal.Hand

end
-- ==== Proof.Frames.lean ====
/-
  The claims that ask no value: each program runs, leaves its arguments as they were and every counter at zero; and the
  named constants stand for what they are named as.
-/
module

public import proofs.«01_k».proof.Defs
public import proofs.«01_k».proof.Proof.Gen.Pre_offset_in_table
public import proofs.«01_k».proof.Proof.Gen.Pre_finite_and_in_table
public import proofs.«01_k».proof.Proof.Gen.ReferenceIdeal.Run
public import proofs.«01_k».proof.Proof.Offset
public import proofs.«01_k».proof.Proof.BitsOffset
public import proofs.«01_k».proof.Proof.BitsLaunch
public import proofs.«01_k».proof.Proof.IdealOffset
public import proofs.«01_k».proof.Proof.IdealLaunch
public import Idealize.ShloMosaic.Lib.Quiescent

@[expose] public section

noncomputable section

namespace Cert.Hand

open Idealize.ShloMosaic Idealize.ShloMosaic.TcCoe Idealize.SL.Sem

/-- The kernel as it stands: with the offset in the table its copy and its blocks stay inside their arrays. -/
theorem frame_kernel : Cert.quiescent_Kernel := fun m ρ hp =>
  (θ_run Cert.Kernel.defs _ _).mono (fun _ h => ⟨fun c => ⟨(h.1 c).1, (h.1 c).2.1, (h.1 c).2.2.1⟩, h.2⟩)
    (Cert.Kernel.Hand.run_main m ρ fun c => Cert.Kernel.Hand.offOk m c fun i => fits_of_in_table _ _ _ (hp c) i)

/-- The same of the kernel over the extended reals. -/
theorem frame_ideal : Cert.quiescent_KernelIdeal := fun m ρ hp =>
  (θ_run Cert.KernelIdeal.defs _ _).mono (fun _ h => ⟨fun c => ⟨(h.1 c).1, (h.1 c).2.1, (h.1 c).2.2.1⟩, h.2⟩)
    (Cert.KernelIdeal.Hand.run_main m ρ fun c => Cert.KernelIdeal.Hand.offOk m c fun i => fits_of_in_table _ _ _ (hp c) i)

/-- The second precondition's word on the offset, at a launch of the kernel over the extended reals. -/
theorem offOk_of_finite (m : (ℓ : Loc Cert.KernelIdeal.nD Cert.KernelIdeal.τ Cert.KernelIdeal.sig) → Buf (Elt Ideal) ℓ)
    (hp : Cert.Pre_KernelIdeal_finite_and_in_table m) (c : Dev Cert.KernelIdeal.nD) : Cert.KernelIdeal.Hand.OffOk m c :=
  Cert.KernelIdeal.Hand.offOk m c fun i => fits_of_finite_and_in_table _ _ _ (hp c).2.2.1 (hp c).2.2.2.1 (hp c).2.2.2.2 i

theorem frame_ideal_finite : Cert.quiescent_KernelIdeal_pre_finite_and_in_table := fun m ρ hp =>
  (θ_run Cert.KernelIdeal.defs _ _).mono (fun _ h => ⟨fun c => ⟨(h.1 c).1, (h.1 c).2.1, (h.1 c).2.2.1⟩, h.2⟩)
    (Cert.KernelIdeal.Hand.run_main m ρ (offOk_of_finite m hp))

/-- The reference has no loop and no counter: it is one run of host operations. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference_finite : Cert.quiescent_ReferenceIdeal_pre_finite_and_in_table := fun m ρ _ => frame_reference m ρ trivial

/-- The three constants printed by name are at the extended reals what the table names. -/
theorem constants : Cert.preserves_Kernel_KernelIdeal :=
  ⟨IdealRules.named_const.statement Cert.KernelIdeal.κ "scale_log2e" .f32 0x429044FE#32 ((((5368709 / 268435456) * (Real.log 2))⁻¹ : ℝ) : EReal) rfl,
    IdealRules.named_const.statement Cert.KernelIdeal.κ "inv_ln2" .f32 0x3FB8AA3B#32 (((Real.log 2)⁻¹ : ℝ) : EReal) rfl,
    IdealRules.named_const.statement Cert.KernelIdeal.κ "rows_log2e" .f32 0x44B8AA3B#32 ((1024 * (Real.log 2)⁻¹ : ℝ) : EReal) rfl⟩

end Cert.Hand

end
-- ==== Proof.Reals.lean ====
/-
  The arithmetic both programs share, on real numbers held as extended reals: the words of the constants, the
  operations at real arguments, sums and maxima of real rows, and the running pair of a maximum and a sum of powers
  which a block-by-block log-sum-exp carries along a row.
-/
module

public import Idealize.ShloMosaic.Lib.Pointwise
public import Idealize.ShloMosaic.PureOps.Ideal

@[expose] public section

set_option maxRecDepth 16384

noncomputable section

namespace Cert.Hand

open Idealize.ShloMosaic
open scoped BigOperators

/-! ### The constants' words -/

/-- The reference's and the kernel's threshold factor, the single-precision number nearest to 0.95. -/
def wt : ℝ := 15938355 / 16777216

theorem word_wt : Ideal.ofBits .f32 0x3F733333#32 = ((wt : ℝ) : EReal) := by
  simp [Ideal.ofBits, Ideal.ieee, -EReal.coe_mul, wt]; norm_num

theorem word_half : Ideal.ofBits .f32 0x3F000000#32 = ((1 / 2 : ℝ) : EReal) := by
  simp [Ideal.ofBits, Ideal.ieee, -EReal.coe_mul]; norm_num

theorem word_bot : Ideal.ofBits .f32 0xFF800000#32 = ⊥ := by
  simp [Ideal.ofBits, Ideal.ieee]

theorem word_top : Ideal.ofBits .f32 0x7F800000#32 = ⊤ := by
  simp [Ideal.ofBits, Ideal.ieee]

theorem word_low : ∃ a : ℝ, Ideal.ofBits .f32 0xF149F2CA#32 = (a : EReal) := by
  refine ⟨-1 * (1 + 4846282 / 8388608) * 2 ^ (99 : ℤ), ?_⟩
  simp [Ideal.ofBits, Ideal.ieee, -EReal.coe_mul]
  norm_num

theorem word_temp : Ideal.ofBits .f32 0x3CA3D70A#32 = ((5368709 / 268435456 : ℝ) : EReal) := by
  simp [Ideal.ofBits, Ideal.ieee, -EReal.coe_mul]; norm_num

theorem word_rows : Ideal.ofBits .f32 0x44800000#32 = ((1024 : ℝ) : EReal) := by
  simp [Ideal.ofBits, Ideal.ieee, -EReal.coe_mul]; norm_num

/-! ### The operations at real arguments -/

theorem exp2_real (a : ℝ) : Ideal.exp2 (a : EReal) = (((2 : ℝ) ^ a : ℝ) : EReal) := rfl

theorem exp_real (a : ℝ) : Ideal.exp (a : EReal) = ((Real.exp a : ℝ) : EReal) := rfl

theorem log_real {a : ℝ} (h : 0 < a) : Ideal.log (a : EReal) = ((Real.log a : ℝ) : EReal) := by
  show (if a ≤ 0 then (⊥ : EReal) else ((Real.log a : ℝ) : EReal)) = _
  rw [if_neg (not_le.2 h)]

theorem div_real {b : ℝ} (h : b ≠ 0) (a : ℝ) : Ideal.div (a : EReal) (b : EReal) = ((a / b : ℝ) : EReal) := by
  rw [Ideal.div_coe h, ← EReal.coe_mul, mul_one_div]

theorem sum_real {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem max_real (a b : ℝ) : max (a : EReal) (b : EReal) = ((max a b : ℝ) : EReal) := (EReal.coe_strictMono.monotone.map_max).symm

/-- The maximum of a row of reals is a real once one real is thrown in. -/
theorem fold_real {ι : Type*} (s : Finset ι) (a : ℝ) (f : ι → ℝ) :
    ∃ b : ℝ, max (a : EReal) (s.fold max ⊥ fun i => ((f i : ℝ) : EReal)) = (b : EReal) := by
  classical
  induction s using Finset.induction_on generalizing a with
  | empty => exact ⟨a, by simp⟩
  | insert i s hi ih =>
    rw [Finset.fold_insert hi, ← max_assoc, max_real]
    exact ih _

/-- The maximum of a row of reals with an entry is a real. -/
theorem fold_real_of_mem {ι : Type*} (s : Finset ι) (i : ι) (hi : i ∈ s) (f : ι → ℝ) :
    ∃ b : ℝ, (s.fold max ⊥ fun i => ((f i : ℝ) : EReal)) = (b : EReal) := by
  classical
  rw [← Finset.insert_erase hi, Finset.fold_insert (Finset.notMem_erase i s)]
  exact fold_real _ _ _

/-! ### The halved scores -/

/-- A score above the threshold of the row's positive counts half. -/
def halve (p z : ℝ) : ℝ := if wt * p < z then z * (1 / 2) else z

/-- Scaling all scores by a positive number scales the halved ones. -/
theorem halve_mul {k : ℝ} (hk : 0 < k) (p z : ℝ) : halve (p * k) (z * k) = halve p z * k := by
  unfold halve
  have : (wt * (p * k) < z * k) ↔ wt * p < z := by
    rw [← mul_assoc]; exact mul_lt_mul_iff_left₀ hk
  simp only [this]
  split <;> ring

theorem halve_self_pos {p : ℝ} (hp : 0 < p) : halve p p = p * (1 / 2) :=
  if_pos (by unfold wt; nlinarith)

theorem halve_self_nonpos {p : ℝ} (hp : p ≤ 0) : halve p p = p :=
  if_neg (by unfold wt; push Not; nlinarith)

/-! ### The running pair -/

/-- The running maximum and sum of a row after its first `K` entries: the maximum is some real `M`, the sum that of the
    powers of two of the entries less `M`. -/
def Running (t : ℕ → ℝ) (K : ℕ) (mx l : EReal) : Prop :=
  ∃ M : ℝ, mx = (M : EReal) ∧ l = ((∑ j ∈ Finset.range K, (2 : ℝ) ^ (t j - M) : ℝ) : EReal)

theorem pow_shift (a M N : ℝ) : (2 : ℝ) ^ (a - M) * (2 : ℝ) ^ (M - N) = (2 : ℝ) ^ (a - N) := by
  rw [← Real.rpow_add two_pos]; congr 1; ring

/-- A change of the running maximum to any real. -/
theorem Running.change {t : ℕ → ℝ} {K : ℕ} {mx l : EReal} (h : Running t K mx l) (N : ℝ) :
    l * Ideal.exp2 (mx - (N : EReal)) = ((∑ j ∈ Finset.range K, (2 : ℝ) ^ (t j - N) : ℝ) : EReal) := by
  obtain ⟨M, rfl, rfl⟩ := h
  rw [← EReal.coe_sub, exp2_real, ← EReal.coe_mul, Finset.sum_mul]
  simp only [pow_shift]

/-- One block of a row: the maximum becomes some real and the block's powers join the sum. -/
theorem Running.block {t : ℕ → ℝ} {K B : ℕ} {mx l : EReal} (h : Running t K mx l) (f : Fin B → EReal)
    (hf : ∀ x : Fin B, f x = ((t (K + x.val) : ℝ) : EReal)) :
    Running t (K + B) (max mx (Finset.univ.fold max ⊥ f))
      (l * Ideal.exp2 (mx - max mx (Finset.univ.fold max ⊥ f))
        + ∑ x : Fin B, Ideal.exp2 (f x - max mx (Finset.univ.fold max ⊥ f))) := by
  obtain ⟨M, hM, hl⟩ := id h
  have hff : f = fun x : Fin B => ((t (K + x.val) : ℝ) : EReal) := funext hf
  obtain ⟨N, hN⟩ := fold_real (Finset.univ : Finset (Fin B)) M fun x => t (K + x.val)
  rw [hM, hff, hN, ← hM, h.change N]
  refine ⟨N, rfl, ?_⟩
  simp only [← EReal.coe_sub, exp2_real]
  rw [sum_real, ← EReal.coe_add, Finset.sum_range_add]
  congr 2
  exact Fin.sum_univ_eq_sum_range (fun x => (2 : ℝ) ^ (t (K + x) - N)) B

/-- A step that counts nothing: the maximum may grow to any real. -/
theorem Running.idle {t : ℕ → ℝ} {K : ℕ} {mx l : EReal} (h : Running t K mx l) {a : EReal} (ha : ∃ b : ℝ, a = (b : EReal)) :
    Running t K (max mx a) (l * Ideal.exp2 (mx - max mx a) + 0) := by
  obtain ⟨M, hM, hl⟩ := id h
  obtain ⟨b, rfl⟩ := ha
  have e : max mx (b : EReal) = ((max M b : ℝ) : EReal) := by rw [hM, max_real]
  rw [e, h.change, add_zero]
  exact ⟨_, rfl, rfl⟩

/-! ### The end of a row -/

/-- A row's loss before its sign is changed: the score of the positive, column `c`, less the log-sum-exp of the row whose
    other entries are halved above the threshold. -/
def rowGain (s : ℕ → ℝ) (c : ℕ) : ℝ :=
  s c - Real.log (∑ j ∈ Finset.range 8192, Real.exp (if j = c then s j else halve (s c) (s j)))

/-- The kernel's last formula on a row: from the running pair of a row scaled by `1 / log 2`, all halved, and the row's
    positive, the row's loss scaled likewise. -/
theorem row_end (s : ℕ → ℝ) (c : ℕ) (hc : c < 8192) {mx l : EReal}
    (h : Running (fun j => halve (s c / Real.log 2) (s j / Real.log 2)) 8192 mx l) :
    let p : EReal := ((s c / Real.log 2 : ℝ) : EReal)
    p - (max mx p + Ideal.log (l * Ideal.exp2 (mx - max mx p)
          + if 0 < p then Ideal.exp2 (p - max mx p) - Ideal.exp2 (((1 / 2 : ℝ) : EReal) * p - max mx p) else 0)
        * (((Real.log 2)⁻¹ : ℝ) : EReal)) = ((rowGain s c / Real.log 2 : ℝ) : EReal) := by
  intro p
  have hln : 0 < Real.log 2 := Real.log_pos one_lt_two
  obtain ⟨M, hM, hl⟩ := id h
  set P : ℝ := s c / Real.log 2 with hP
  set N : ℝ := max M P with hN
  have e : max mx p = (N : EReal) := by rw [hM, max_real]
  rw [e, h.change N]
  -- the sum with the positive put back
  set E : ℕ → ℝ := fun j => if j = c then s j else halve (s c) (s j) with hE
  have hsc : ∀ j, halve P (s j / Real.log 2) = halve (s c) (s j) / Real.log 2 := fun j => by
    have := halve_mul (inv_pos.2 hln) (s c) (s j)
    simpa [hP, div_eq_mul_inv] using this
  have hpow : ∀ a : ℝ, (2 : ℝ) ^ (a / Real.log 2 - N) = Real.exp a * (2 : ℝ) ^ (-N) := fun a => by
    rw [sub_eq_add_neg, Real.rpow_add two_pos, Real.rpow_def_of_pos two_pos, mul_div_cancel₀ _ hln.ne']
  have hsum : (∑ j ∈ Finset.range 8192, (2 : ℝ) ^ (halve P (s j / Real.log 2) - N))
        + (if 0 < P then (2 : ℝ) ^ (P - N) - (2 : ℝ) ^ (1 / 2 * P - N) else 0)
      = (∑ j ∈ Finset.range 8192, Real.exp (E j)) * (2 : ℝ) ^ (-N) := by
    rw [Finset.sum_mul, ← Finset.add_sum_erase _ _ (Finset.mem_range.2 hc), ← Finset.add_sum_erase _ _ (Finset.mem_range.2 hc)]
    have hrest : (∑ j ∈ (Finset.range 8192).erase c, (2 : ℝ) ^ (halve P (s j / Real.log 2) - N))
        = ∑ j ∈ (Finset.range 8192).erase c, Real.exp (E j) * (2 : ℝ) ^ (-N) := by
      refine Finset.sum_congr rfl fun j hj => ?_
      rw [hsc, hpow]
      simp only [hE, if_neg (Finset.ne_of_mem_erase hj)]
    rw [hrest]
    have hcc : (2 : ℝ) ^ (P - N) = Real.exp (E c) * (2 : ℝ) ^ (-N) := by
      rw [hP, hpow]; simp [hE]
    rw [← hcc, ← hP]
    by_cases hp : 0 < P
    · rw [if_pos hp, halve_self_pos hp, mul_comm P]; ring
    · rw [if_neg hp, halve_self_nonpos (not_lt.1 hp)]; ring
  have hif : (if 0 < p then Ideal.exp2 (p - (N : EReal)) - Ideal.exp2 (((1 / 2 : ℝ) : EReal) * p - (N : EReal)) else 0)
      = (((if 0 < P then (2 : ℝ) ^ (P - N) - (2 : ℝ) ^ (1 / 2 * P - N) else 0) : ℝ) : EReal) := by
    have hpp : (0 < p) ↔ 0 < P := EReal.coe_pos
    by_cases hp : 0 < P
    · rw [if_pos hp, if_pos (hpp.2 hp), ← EReal.coe_mul, ← EReal.coe_sub, ← EReal.coe_sub, exp2_real, exp2_real, ← EReal.coe_sub]
    · rw [if_neg hp, if_neg fun q => hp (hpp.1 q)]; rfl
  have hS : 0 < ∑ j ∈ Finset.range 8192, Real.exp (E j) :=
    Finset.sum_pos (fun j _ => Real.exp_pos _) ⟨0, by simp⟩
  rw [hif, ← EReal.coe_add, hsum, log_real (mul_pos hS (Real.rpow_pos_of_pos two_pos _)), ← EReal.coe_mul, ← EReal.coe_add,
    ← EReal.coe_sub, Real.log_mul hS.ne' (Real.rpow_pos_of_pos two_pos _).ne', Real.log_rpow two_pos]
  congr 1
  unfold rowGain
  show P - (N + (Real.log (∑ j ∈ Finset.range 8192, Real.exp (E j)) + -N * Real.log 2) * (Real.log 2)⁻¹)
    = (s c - Real.log (∑ j ∈ Finset.range 8192, Real.exp (E j))) / Real.log 2
  rw [hP]
  field_simp
  ring

/-- The loss of all rows: the mean of the rows' losses, with the sign changed. -/
def meanLoss (s : ℕ → ℕ → ℝ) (o : ℕ) : ℝ := -(∑ i ∈ Finset.range 1024, rowGain (s i) (o + i)) / 1024

/-- The scores of real queries and a real table, over the temperature. -/
def scores (Q : Fin 1024 → Fin 1024 → ℝ) (D : Fin 8192 → Fin 1024 → ℝ) (i j : ℕ) : ℝ :=
  if h : i < 1024 ∧ j < 8192 then (∑ k : Fin 1024, Q ⟨i, h.1⟩ k * D ⟨j, h.2⟩ k) / (5368709 / 268435456) else 0

theorem scores_fin (Q : Fin 1024 → Fin 1024 → ℝ) (D : Fin 8192 → Fin 1024 → ℝ) (i : Fin 1024) (j : Fin 8192) :
    scores Q D i.val j.val = (∑ k : Fin 1024, Q i k * D j k) / (5368709 / 268435456) :=
  dif_pos ⟨i.isLt, j.isLt⟩

end Cert.Hand
-- ==== Proof.KernelRow.lean ====
/-
  The kernel's formulas on one row, on finite numbers: the filter of the scores, a block joining the running maximum
  and sum, the step that has no block to count yet, and the last formula.
-/
module

public import proofs.«01_k».proof.Proof.IdealRun
public import proofs.«01_k».proof.Proof.Reals
public import Idealize.ShloMosaic.Lib.Pointwise

@[expose] public section

set_option maxRecDepth 16384

noncomputable section

namespace Cert.KernelIdeal.Hand

open Cert.KernelIdeal Cert.KernelIdeal.Gen Cert.Hand
open Idealize.ShloMosaic

/-- The choice between a number halved and itself by the threshold test, on real numbers. -/
theorem pick_real (p z : ℝ) :
    (if Ideal.ofBits .f32 0x3F733333#32 * (p : EReal) < (z : EReal) then (z : EReal) * Ideal.ofBits .f32 0x3F000000#32 else (z : EReal))
      = ((halve p z : ℝ) : EReal) := by
  rw [word_wt, word_half, ← EReal.coe_mul, ← EReal.coe_mul]
  simp only [EReal.coe_lt_coe_iff]
  unfold halve
  split <;> rfl

section
variable (s : Vec Ideal S1024x1024 .f32) (pos : Vec Ideal S1024x1 .f32) (r : Fin 1024) (p : ℝ) (hp : pos (ix2 r 0) = (p : EReal))
  (x : Fin 1024) (z : ℝ) (hz : s (ix2 r x) = (z : EReal))
include hp hz

theorem filter20 : k0_pay20 (F := Ideal) s pos (ix2 r x) = ((halve p z : ℝ) : EReal) := by
  rw [← pick_real, ← hp, ← hz]; pointwise [k0_pay20]
theorem filter13 : k0_pay13 (F := Ideal) s pos (ix2 r x) = ((halve p z : ℝ) : EReal) := by
  rw [← pick_real, ← hp, ← hz]; pointwise [k0_pay13]
theorem filter4 : k0_pay4 (F := Ideal) s pos (ix2 r x) = ((halve p z : ℝ) : EReal) := by
  rw [← pick_real, ← hp, ← hz]; pointwise [k0_pay4]
end

section
variable (s : Vec Ideal S1024x1024 .f32) (pos mx l : Vec Ideal S1024x1 .f32) (r : Fin 1024)

theorem blkMax_at : blkMax s pos mx (ix2 r 0) = max (mx (ix2 r 0)) (Finset.univ.fold max ⊥ fun x : Fin 1024 => k0_pay20 s pos (ix2 r x)) := by
  rw [← word_bot]; pointwise [blkMax, k0_pay2, k0_pay21]

theorem blkSum_at : blkSum s pos mx l (ix2 r 0) = l (ix2 r 0) * Ideal.exp2 (mx (ix2 r 0) - blkMax s pos mx (ix2 r 0))
      + ∑ x : Fin 1024, Ideal.exp2 (k0_pay20 s pos (ix2 r x) - blkMax s pos mx (ix2 r 0)) := by
  rw [blkMax_at, ← word_bot]; pointwise [blkSum, k0_pay21, k0_pay1, k0_pay22]; rfl

theorem endMax_at : k0_pay5 s pos mx (ix2 r 0) = max (mx (ix2 r 0)) (Finset.univ.fold max ⊥ fun x : Fin 1024 => k0_pay4 s pos (ix2 r x)) := by
  rw [← word_bot]; pointwise [k0_pay5]

variable (i : grid0.Coords)

theorem midMax_first (hi : (i 0).val = 0) : midMax i s pos mx (ix2 r 0) = max (mx (ix2 r 0)) (Ideal.ofBits .f32 0xF149F2CA#32) := by
  unfold midMax k0_pay18 k0_pay14
  dsimp only
  simp only [sge_first i hi, select_zero]
  pointwise

theorem midSum_first (hi : (i 0).val = 0) : midSum i s pos mx l (ix2 r 0) = l (ix2 r 0) * Ideal.exp2 (mx (ix2 r 0) - midMax i s pos mx (ix2 r 0)) + 0 := by
  rw [midMax_first s pos mx r i hi]
  unfold midSum k0_pay17 k0_pay16 k0_pay14
  dsimp only
  simp only [sge_first i hi, select_zero]
  pointwise
  rfl

theorem select_full {α : Type} (x y : α) : Scalar.select 1#1 x y = x := by unfold Scalar.select; simp

theorem midMax_later (hi : Scalar.cmpi .sge (BitVec.ofNat 32 (i 0).val) 1#32 = 1#1) :
    midMax i s pos mx (ix2 r 0) = max (mx (ix2 r 0)) (Finset.univ.fold max ⊥ fun x : Fin 1024 => k0_pay13 s pos (ix2 r x)) := by
  rw [← word_bot]
  unfold midMax k0_pay18 k0_pay14
  dsimp only
  simp only [hi, select_full]
  pointwise

theorem midSum_later (hi : Scalar.cmpi .sge (BitVec.ofNat 32 (i 0).val) 1#32 = 1#1) :
    midSum i s pos mx l (ix2 r 0) = l (ix2 r 0) * Ideal.exp2 (mx (ix2 r 0) - midMax i s pos mx (ix2 r 0))
      + ∑ x : Fin 1024, Ideal.exp2 (k0_pay13 s pos (ix2 r x) - midMax i s pos mx (ix2 r 0)) := by
  rw [midMax_later s pos mx r i hi, ← word_bot]
  unfold midSum k0_pay17 k0_pay16 k0_pay15 k0_pay14
  dsimp only
  simp only [hi, select_full]
  pointwise
  rfl

theorem lastOut_at : lastOut s pos mx l (ix2 0 0)
    = Ideal.div (0 - ∑ r : Fin 1024,
        (pos (ix2 r 0) - (max (k0_pay5 s pos mx (ix2 r 0)) (pos (ix2 r 0))
          + Ideal.log ((l (ix2 r 0) * Ideal.exp2 (mx (ix2 r 0) - k0_pay5 s pos mx (ix2 r 0))
                + ∑ x : Fin 1024, Ideal.exp2 (k0_pay4 s pos (ix2 r x) - k0_pay5 s pos mx (ix2 r 0)))
              * Ideal.exp2 (k0_pay5 s pos mx (ix2 r 0) - max (k0_pay5 s pos mx (ix2 r 0)) (pos (ix2 r 0)))
            + if 0 < pos (ix2 r 0) then Ideal.exp2 (pos (ix2 r 0) - max (k0_pay5 s pos mx (ix2 r 0)) (pos (ix2 r 0)))
                - Ideal.exp2 (((1 / 2 : ℝ) : EReal) * pos (ix2 r 0) - max (k0_pay5 s pos mx (ix2 r 0)) (pos (ix2 r 0))) else 0)
          * (((Real.log 2)⁻¹ : ℝ) : EReal)))) (((1024 * (Real.log 2)⁻¹ : ℝ)) : EReal) := by
  rw [← word_half, show (((Real.log 2)⁻¹ : ℝ) : EReal) = (Named.named κ "inv_ln2" (0x3FB8AA3B#32 : BitVec (FTy.bits .f32)) : Ideal .f32) from rfl,
    show (((1024 * (Real.log 2)⁻¹ : ℝ)) : EReal) = (Named.named κ "rows_log2e" (0x44B8AA3B#32 : BitVec (FTy.bits .f32)) : Ideal .f32) from rfl]
  pointwise [lastOut, k0_pay3, k0_pay6, k0_pay7]
  simp only [Finset.univ_unique, Finset.sum_singleton]
  rfl
end

/-! ### The running pair through a step -/

section
variable (s : Vec Ideal S1024x1024 .f32) (pos mx l : Vec Ideal S1024x1 .f32) (r : Fin 1024) (p : ℝ) (hp : pos (ix2 r 0) = (p : EReal))
  (z : ℕ → ℝ) (K : ℕ) (hz : ∀ x : Fin 1024, s (ix2 r x) = ((z (K + x.val) : ℝ) : EReal))
  (h : Running (fun j => halve p (z j)) K (mx (ix2 r 0)) (l (ix2 r 0)))
include hp h

theorem run_first (i : grid0.Coords) (hi : (i 0).val = 0) :
    Running (fun j => halve p (z j)) K (midMax i s pos mx (ix2 r 0)) (midSum i s pos mx l (ix2 r 0)) := by
  rw [midSum_first s pos mx l r i hi, midMax_first s pos mx r i hi]
  exact h.idle word_low

include hz

theorem run_blk : Running (fun j => halve p (z j)) (K + 1024) (blkMax s pos mx (ix2 r 0)) (blkSum s pos mx l (ix2 r 0)) := by
  rw [blkSum_at, blkMax_at]
  exact h.block (fun x : Fin 1024 => k0_pay20 s pos (ix2 r x)) fun x => filter20 s pos r p hp x _ (hz x)

theorem run_later (i : grid0.Coords) (hi : Scalar.cmpi .sge (BitVec.ofNat 32 (i 0).val) 1#32 = 1#1) :
    Running (fun j => halve p (z j)) (K + 1024) (midMax i s pos mx (ix2 r 0)) (midSum i s pos mx l (ix2 r 0)) := by
  rw [midSum_later s pos mx l r i hi, midMax_later s pos mx r i hi]
  exact h.block (fun x : Fin 1024 => k0_pay13 s pos (ix2 r x)) fun x => filter13 s pos r p hp x _ (hz x)

theorem run_end : Running (fun j => halve p (z j)) (K + 1024) (k0_pay5 s pos mx (ix2 r 0))
    (l (ix2 r 0) * Ideal.exp2 (mx (ix2 r 0) - k0_pay5 s pos mx (ix2 r 0))
      + ∑ x : Fin 1024, Ideal.exp2 (k0_pay4 s pos (ix2 r x) - k0_pay5 s pos mx (ix2 r 0))) := by
  rw [endMax_at]
  exact h.block (fun x : Fin 1024 => k0_pay4 s pos (ix2 r x)) fun x => filter4 s pos r p hp x _ (hz x)

end

end Cert.KernelIdeal.Hand
-- ==== Proof.KernelBlocks.lean ====
/-
  What the kernel's buffers hold, entry by entry: the staged blocks and the rows of the positives as entries of the
  program's arguments, and the halves of a staged block.
-/
module

public import proofs.«01_k».proof.Proof.IdealOffset
public import Idealize.ShloMosaic.Lib.Pointwise
public import Idealize.ShloMosaic.Lib.Pipeline.ValueKit
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The queries. -/
abbrev argQ (c : Dev nD) : FVec Ideal S1024x1024 .f32 := m ((c : Thread nD τ).loc main_arg0)
/-- The table. -/
abbrev argD (c : Dev nD) : FVec Ideal S8192x1024 .f32 := m ((c : Thread nD τ).loc main_arg1)
/-- The offset. -/
abbrev argO (c : Dev nD) : IVec S_ 32 := m ((c : Thread nD τ).loc main_arg2)

theorem qBlk_at (c : Dev nD) (i k : Fin 1024) : qBlk m c (ix2 i k) = argQ m c (ix2 i k) := by
  unfold qBlk
  blk_point [iblk, V]
  · rw [show win0_1.index t0_0 0 = 0 from by decide +kernel]; omega
  · rw [show win0_1.index t0_0 1 = 0 from by decide +kernel]; omega

theorem dBlk_at0 (c : Dev nD) (i : Fin 2048) (k : Fin 1024) : dBlk m c 0 (ix2 i k) = argD m c (ix2 ⟨0 + i.val, by omega⟩ k) := by
  unfold dBlk
  rw [show stepAt 0 = t0_0 from rfl]
  blk_point [iblk, V]
  · rw [show win0_2.index t0_0 0 = 0 from by decide +kernel]; omega
  · rw [show win0_2.index t0_0 1 = 0 from by decide +kernel]; omega

theorem dBlk_at1 (c : Dev nD) (i : Fin 2048) (k : Fin 1024) : dBlk m c 1 (ix2 i k) = argD m c (ix2 ⟨2048 + i.val, by omega⟩ k) := by
  unfold dBlk
  rw [show stepAt 1 = t0_1 from rfl]
  blk_point [iblk, V]
  · rw [show win0_2.index t0_1 0 = 1 from by decide +kernel]
  · rw [show win0_2.index t0_1 1 = 0 from by decide +kernel]; omega

theorem dBlk_at2 (c : Dev nD) (i : Fin 2048) (k : Fin 1024) : dBlk m c 2 (ix2 i k) = argD m c (ix2 ⟨4096 + i.val, by omega⟩ k) := by
  unfold dBlk
  rw [show stepAt 2 = t0_2 from rfl]
  blk_point [iblk, V]
  · rw [show win0_2.index t0_2 0 = 2 from by decide +kernel]
  · rw [show win0_2.index t0_2 1 = 0 from by decide +kernel]; omega

theorem dBlk_at3 (c : Dev nD) (i : Fin 2048) (k : Fin 1024) : dBlk m c 3 (ix2 i k) = argD m c (ix2 ⟨6144 + i.val, by omega⟩ k) := by
  unfold dBlk
  rw [show stepAt 3 = t0_3 from rfl]
  blk_point [iblk, V]
  · rw [show win0_2.index t0_3 0 = 3 from by decide +kernel]
  · rw [show win0_2.index t0_3 1 = 0 from by decide +kernel]; omega

/-- The table's block at any step. -/
theorem dBlk_at (c : Dev nD) (n : ℕ) (hn : n < 4) (i : Fin 2048) (k : Fin 1024) :
    dBlk m c n (ix2 i k) = argD m c (ix2 ⟨2048 * n + i.val, by omega⟩ k) := by
  interval_cases n
  · exact dBlk_at0 m c i k
  · exact dBlk_at1 m c i k
  · exact dBlk_at2 m c i k
  · exact dBlk_at3 m c i k

theorem lo_at (d : Vec Ideal S2048x1024 .f32) (i k : Fin 1024) : View.ld d (Rect.unit (s := S2048x1024) ![0,0] S1024x1024.size inb_S2048x1024_S1024x1024_0_0) (ix2 i k) = d (ix2 ⟨i.val, by omega⟩ k) := by
  pointwise

theorem hi_at (d : Vec Ideal S2048x1024 .f32) (i k : Fin 1024) : View.ld d (Rect.unit (s := S2048x1024) ![1024,0] S1024x1024.size inb_S2048x1024_S1024x1024_1024_0) (ix2 i k) = d (ix2 ⟨1024 + i.val, by omega⟩ k) := by
  pointwise

/-- The rows of the positives, from an offset that leaves them inside the table. -/
theorem rows_at (w : BitVec 32) (g : Vec Ideal S8192x1024 .f32) (hw : w.toNat ≤ 7168) (i k : Fin 1024) :
    rowsFrom w g (ix2 i k) = g (ix2 ⟨w.toNat + i.val, by omega⟩ k) := by
  have h : ∀ a, (k0_off1 w) a + S1024x1024.size a ≤ S8192x1024.size a := by
    intro a
    unfold k0_off1
    fin_cases a
    · show (BitVec.toNat _) + 1024 ≤ 8192; omega
    · show 0 + 1024 ≤ 1024; omega
  rw [rowsFrom_pos w g h]
  pointwise
  refine congrArg g ?_
  funext a
  apply Fin.ext
  match a with
  | ⟨0, _⟩ => rfl
  | ⟨1, _⟩ => show 0 + k.val = k.val; omega

theorem tab_at (c : Dev nD) (j : Fin 8192) (k : Fin 1024) :
    (tab.view.read (Elt Ideal) (V m c main_arg1)) (ix2 j k) = argD m c (ix2 j k) := by
  rw [V_main_arg1]
  rfl

/-- The word of the offset. -/
theorem word_at (c : Dev nD) : offWord m c = argO m c ix0 := by
  obtain ⟨i, h⟩ := offWord_eq m c
  rw [h]
  exact congrArg _ (funext fun a => a.elim0)

/-- The program's result is what the last step writes. -/
theorem resEnd_at (c : Dev nD) (j : S_.Idx) : (resEnd m c : S_.Idx → EReal) j = resV m c (ix2 0 0) := by
  have hA : (dats m 0 c).arrAt 3 cfg0.N = resV m c := by
    refine (dats m 0 c).arrAt_eq_of_after_last 3 t0_3 (by decide +kernel) _ fun j => ?_
    rw [after0_3]
    blk_simp
    rfl
  unfold resEnd Vend hostOps1
  after_reads_at
  rw [Vf_v1, hA]

end Cert.KernelIdeal.Hand
-- ==== Proof.KernelValue.lean ====
/-
  What the kernel computes on finite arguments: the running maximum and sum of every row before each grid step, all
  columns counted at the end, and the mean loss that the last step writes.
-/
module

public import proofs.«01_k».proof.Proof.KernelRow
public import proofs.«01_k».proof.Proof.KernelBlocks

@[expose] public section

set_option maxRecDepth 16384

noncomputable section

namespace Cert.KernelIdeal.Hand

open Cert.KernelIdeal Cert.KernelIdeal.Gen Cert.Hand
open Idealize.ShloMosaic Idealize.ShloMosaic.TcCoe

/-- The scaled queries at an entry. -/
theorem scaled_at (q : Vec Ideal S1024x1024 .f32) (i k : Fin 1024) :
    k0_pay8 (F := Ideal) q (ix2 i k) = q (ix2 i k) * (((((5368709 / 268435456) * (Real.log 2))⁻¹ : ℝ)) : EReal) := by
  rw [show (((((5368709 / 268435456) * (Real.log 2))⁻¹ : ℝ)) : EReal)
    = (Named.named κ "scale_log2e" (0x429044FE#32 : BitVec (FTy.bits .f32)) : Ideal .f32) from rfl]
  pointwise [k0_pay8]

theorem prodLo_at (qs : Vec Ideal S1024x1024 .f32) (d : Vec Ideal S1024x1024 .f32) (i x : Fin 1024) :
    k0_pay12 (F := Ideal) qs d (ix2 i x) = ∑ k : Fin 1024, qs (ix2 i k) * d (ix2 x k) := by
  pointwise [k0_pay12]

theorem prodHi_at (qs : Vec Ideal S1024x1024 .f32) (d : Vec Ideal S1024x1024 .f32) (i x : Fin 1024) :
    k0_pay19 (F := Ideal) qs d (ix2 i x) = ∑ k : Fin 1024, qs (ix2 i k) * d (ix2 x k) := by
  pointwise [k0_pay19]

theorem prodPos_at (qs : Vec Ideal S1024x1024 .f32) (d : Vec Ideal S1024x1024 .f32) (i : Fin 1024) :
    k0_pay9 (F := Ideal) qs d (ix2 i 0) = ∑ k : Fin 1024, qs (ix2 i k) * d (ix2 i k) := by
  pointwise [k0_pay9]

theorem start_max (i : Fin 1024) : k0_pay10 (F := Ideal) (ix2 i 0) = Ideal.ofBits .f32 0xF149F2CA#32 := by
  pointwise [k0_pay10]

theorem start_sum (i : Fin 1024) : k0_pay11 (F := Ideal) (ix2 i 0) = 0 := by
  pointwise [k0_pay11]

section
variable (m : (ℓ : Loc nD τ sig) → Buf (Elt Ideal) ℓ) (c : Dev nD)
  (Q : Fin 1024 → Fin 1024 → ℝ) (D : Fin 8192 → Fin 1024 → ℝ)
  (hq : ∀ i k, argQ m c (ix2 i k) = ((Q i k : ℝ) : EReal)) (hd : ∀ j k, argD m c (ix2 j k) = ((D j k : ℝ) : EReal))
  (n : ℕ) (hn : n ≤ 7168) (ho : argO m c ix0 = BitVec.ofNat 32 n)
include hq

theorem qs_real (i k : Fin 1024) : qsOf m c (ix2 i k) = ((Q i k * ((5368709 / 268435456) * (Real.log 2))⁻¹ : ℝ) : EReal) := by
  unfold qsOf
  rw [scaled_at, qBlk_at, hq, ← EReal.coe_mul]

include hd

/-- A row of the scaled queries times a row of the table. -/
theorem dot_real (i : Fin 1024) (j : ℕ) (hj : j < 8192) :
    (∑ k : Fin 1024, qsOf m c (ix2 i k) * argD m c (ix2 ⟨j, hj⟩ k)) = ((scores Q D i.val j / Real.log 2 : ℝ) : EReal) := by
  simp only [qs_real m c Q hq, hd, ← EReal.coe_mul]
  rw [sum_real]
  refine congrArg (fun x : ℝ => (x : EReal)) ?_
  rw [scores_fin Q D i ⟨j, hj⟩, div_div]
  generalize (5368709 / 268435456 * Real.log 2 : ℝ) = T
  rw [div_eq_mul_inv, Finset.sum_mul]
  exact Finset.sum_congr rfl fun k _ => by ring

theorem lo_real (s : ℕ) (hs : s < 4) (i x : Fin 1024) :
    loScores (qsOf m c) (dBlk m c s) (ix2 i x) = ((scores Q D i.val (2048 * s + x.val) / Real.log 2 : ℝ) : EReal) := by
  unfold loScores
  rw [prodLo_at]
  refine (Finset.sum_congr rfl fun k _ => ?_).trans (dot_real m c Q D hq hd i (2048 * s + x.val) (by omega))
  rw [lo_at, dBlk_at m c s hs]

theorem hi_real (s : ℕ) (hs : s < 4) (i x : Fin 1024) :
    hiScores (qsOf m c) (dBlk m c s) (ix2 i x) = ((scores Q D i.val (2048 * s + 1024 + x.val) / Real.log 2 : ℝ) : EReal) := by
  unfold hiScores
  rw [prodHi_at]
  refine (Finset.sum_congr rfl fun k _ => ?_).trans (dot_real m c Q D hq hd i (2048 * s + 1024 + x.val) (by omega))
  rw [hi_at, dBlk_at m c s hs]
  simp only [Nat.add_assoc]

include hn ho

theorem pos_real (i : Fin 1024) : posV m c (ix2 i 0) = ((scores Q D i.val (n + i.val) / Real.log 2 : ℝ) : EReal) := by
  have hw : (offWord m c).toNat = n := by rw [word_at, ho, BitVec.toNat_ofNat, Nat.mod_eq_of_lt (by omega)]
  unfold posV posOf
  rw [prodPos_at]
  refine (Finset.sum_congr rfl fun k _ => ?_).trans (dot_real m c Q D hq hd i (n + i.val) (by omega))
  rw [rows_at _ _ (hw.le.trans hn), tab_at]
  simp only [hw]

/-- The columns a row has counted before a step. -/
theorem state_real (i : Fin 1024) (s : ℕ) (hs : s ≤ 4) :
    Running (fun j => halve (scores Q D i.val (n + i.val) / Real.log 2) (scores Q D i.val j / Real.log 2)) (2048 * s - 1024)
      (stM m c s (ix2 i 0)) (stL m c s (ix2 i 0)) := by
  induction s with
  | zero =>
    obtain ⟨a, ha⟩ := word_low
    exact ⟨a, (start_max i).trans ha, (start_sum i).trans (by simp)⟩
  | succ s ih =>
    have ih := ih (by omega)
    have hp := pos_real m c Q D hq hd n hn ho i
    rw [show stM m c (s + 1) = stepMax (grid0.coords (stepAt s)) (qsOf m c) (dBlk m c s) (stB m c s) (posV m c) (stM m c s) from rfl,
      show stL m c (s + 1) = stepSum (grid0.coords (stepAt s)) (qsOf m c) (dBlk m c s) (stB m c s) (posV m c) (stM m c s) (stL m c s) from rfl]
    unfold stepMax stepSum
    rcases Nat.eq_zero_or_pos s with rfl | h0
    · refine run_blk _ _ _ _ i _ hp (fun j => scores Q D i.val j / Real.log 2) 0 (fun x => ?_) (run_first _ _ _ _ i _ hp _ _ ih _ rfl)
      exact lo_real m c Q D hq hd 0 (by omega) i x
    · have e : 2048 * (s + 1) - 1024 = (2048 * s - 1024 + 1024) + 1024 := by omega
      rw [e]
      refine run_blk _ _ _ _ i _ hp (fun j => scores Q D i.val j / Real.log 2) _ (fun x => ?_)
        (run_later _ _ _ _ i _ hp (fun j => scores Q D i.val j / Real.log 2) _ (fun x => ?_) ih _ ?_)
      · rw [lo_real m c Q D hq hd s (by omega) i x, show 2048 * s - 1024 + 1024 = 2048 * s from by omega]
      · obtain ⟨t, rfl⟩ : ∃ t, s = t + 1 := ⟨s - 1, by omega⟩
        show hiScores (qsOf m c) (dBlk m c t) (ix2 i x) = _
        rw [hi_real m c Q D hq hd t (by omega) i x, show 2048 * (t + 1) - 1024 = 2048 * t + 1024 from by omega]
      · have : s = 1 ∨ s = 2 ∨ s = 3 := by omega
        rcases this with rfl | rfl | rfl <;> decide +kernel

/-- The kernel's result on finite arguments. -/
theorem res_real (j : S_.Idx) : (resEnd m c : S_.Idx → EReal) j = ((meanLoss (scores Q D) n : ℝ) : EReal) := by
  have hln : 0 < Real.log 2 := Real.log_pos one_lt_two
  rw [resEnd_at]
  unfold resV
  rw [lastOut_at]
  have hrow : ∀ r : Fin 1024, _ := fun r =>
    row_end (scores Q D r.val) (n + r.val) (by omega)
      (run_end (stB m c 4) (posV m c) (stM m c 4) (stL m c 4) r _ (pos_real m c Q D hq hd n hn ho r) (fun j => scores Q D r.val j / Real.log 2) 7168
        (fun x => hi_real m c Q D hq hd 3 (by omega) r x) (state_real m c Q D hq hd n hn ho r 4 le_rfl))
  simp only [pos_real m c Q D hq hd n hn ho]
  rw [Finset.sum_congr rfl fun r _ => hrow r, sum_real, ← EReal.coe_zero, ← EReal.coe_sub, div_real (by positivity),
    Fin.sum_univ_eq_sum_range (fun i => rowGain (scores Q D i) (n + i) / Real.log 2) 1024, ← Finset.sum_div]
  refine congrArg (fun x : ℝ => (x : EReal)) ?_
  unfold meanLoss
  generalize (∑ i ∈ Finset.range 1024, rowGain (scores Q D i) (n + i)) = G
  field_simp
  ring

end

end Cert.KernelIdeal.Hand
-- ==== Proof.PairIndex.lean ====
/-
  Reads at an index, at any sizes: a gather and a scatter of single entries of a matrix, each entry's place given by a
  pair of words, and the maximum of a matrix's row as a fold.
-/
module

public import Idealize.ShloMosaic.Lib.Pointwise
public import Idealize.ShloMosaic.Lib.ValueIdx
public import Idealize.ShloMosaic.Lib.Routing.OpsSet
public import Idealize.ShloMosaic.Lib.Routing.OpsPair

@[expose] public section

set_option maxRecDepth 16384

noncomputable section

namespace Cert.Hand

open Idealize.ShloMosaic

/-- The dimension numbers of a gather of `N` single entries of an `[R, C]` matrix, their places the rows of an `[N, 2]` table. -/
abbrev pairGather (R C N : Nat) (wf : GatherDims.WF ⟨2, ![R, C]⟩ ⟨2, ![N, 2]⟩ ⟨1, ![N]⟩ [] [0, 1] [] [0, 1] [] 1 ![1, 1]) :
    GatherDims ⟨2, ![R, C]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

/-- Such a gather where the pair of words names an entry of the matrix. -/
theorem pairGather_apply {α : Type} {R C N w : Nat} (wf : GatherDims.WF ⟨2, ![R, C]⟩ ⟨2, ![N, 2]⟩ ⟨1, ![N]⟩ [] [0, 1] [] [0, 1] [] 1 ![1, 1])
    (x : (⟨2, ![R, C]⟩ : Shape).Idx → α) (idx : IVec ⟨2, ![N, 2]⟩ w) (n : Fin N) (r : Fin R) (c : Fin C)
    (hr : (idx (ix2 n 0)).toInt = r.val) (hc : (idx (ix2 n 1)).toInt = c.val) :
    Host.gather (pairGather R C N wf) x idx (ix1 n) = x (ix2 r c) := by
  unfold Host.gather
  congr 1
  funext a
  refine Fin.ext ?_
  show (pairGather R C N wf).start (ix1 n) idx a + (pairGather R C N wf).batchCoord (ix1 n) a + (pairGather R C N wf).offCoord (ix1 n) a = _
  have ha : a ∈ ([0, 1] : List (Fin 2)) := by
    match a with
    | ⟨0, _⟩ => simp
    | ⟨1, _⟩ => simp
  rw [GatherDims.batchCoord_eq_zero _ _ _ List.not_mem_nil,
    GatherDims.offCoord_eq_zero _ _ _ (fun h => ((GatherDims.mem_sKept _ _).mp h).1 ha)]
  simp only [Nat.add_zero]
  unfold GatherDims.start
  rw [dif_pos (show a ∈ (pairGather R C N wf).startIndexMap from ha)]
  match a with
  | ⟨0, _⟩ =>
    have hsi : (pairGather R C N wf).siIdx (ix1 n) ⟨List.idxOf (0 : Fin 2) (pairGather R C N wf).startIndexMap,
        List.idxOf_lt_length_iff.2 ha⟩ = ix2 n 0 := by
      funext b; refine Fin.ext ?_
      match b with
      | ⟨0, _⟩ => rfl
      | ⟨1, _⟩ => rfl
    have := r.isLt
    refine Eq.trans (congrArg (fun j => min (idx j).toInt.toNat (R - 1)) hsi) ?_
    rw [hr]
    show min r.val (R - 1) = r.val
    omega
  | ⟨1, _⟩ =>
    have hsi : (pairGather R C N wf).siIdx (ix1 n) ⟨List.idxOf (1 : Fin 2) (pairGather R C N wf).startIndexMap,
        List.idxOf_lt_length_iff.2 ha⟩ = ix2 n 1 := by
      funext b; refine Fin.ext ?_
      match b with
      | ⟨0, _⟩ => rfl
      | ⟨1, _⟩ => rfl
    have := c.isLt
    refine Eq.trans (congrArg (fun j => min (idx j).toInt.toNat (C - 1)) hsi) ?_
    rw [hc]
    show min c.val (C - 1) = c.val
    omega

/-- The dimension numbers of the scatter that goes with it. -/
abbrev pairScatter (R C N : Nat) (wf : ScatterDims.WF ⟨2, ![R, C]⟩ ⟨2, ![N, 2]⟩ ⟨1, ![N]⟩ [] [0, 1] [0, 1] 1) :
    ScatterDims ⟨2, ![R, C]⟩ ⟨2, ![N, 2]⟩ ⟨1, ![N]⟩ where
  updateWindowDims := []
  insertedWindowDims := [0, 1]
  scatterDimsToOperandDims := [0, 1]
  indexVectorDim := 1
  wf := wf

/-- Where an update of such a scatter lands. -/
theorem pairScatter_lands {R C N w : Nat} (wf : ScatterDims.WF ⟨2, ![R, C]⟩ ⟨2, ![N, 2]⟩ ⟨1, ![N]⟩ [] [0, 1] [0, 1] 1)
    (idx : IVec ⟨2, ![N, 2]⟩ w) (n : Fin N) (r : Fin R) (c : Fin C) :
    (pairScatter R C N wf).resultIdx? (ix1 n) idx = some (ix2 r c)
      ↔ (idx (ix2 n 0)).toInt = r.val ∧ (idx (ix2 n 1)).toInt = c.val := by
  rw [Routing.resultIdx?_eq_some]
  have hm : ∀ q : Fin 2, q ∈ (pairScatter R C N wf).scatterDimsToOperandDims := fun q => by
    show q ∈ ([0, 1] : List (Fin 2)); fin_cases q <;> simp
  have hwin : ∀ q : Fin 2, (pairScatter R C N wf).window (ix1 n) q = 0 := fun q => by
    unfold ScatterDims.window
    rw [dif_neg fun h => (of_decide_eq_true (List.mem_filter.1 h).2) (hm q)]
  have hs0 : (pairScatter R C N wf).start (ix1 n) idx 0 = (idx (ix2 n 0)).toInt := by
    unfold ScatterDims.start
    rw [dif_pos (hm 0)]
    congr 2
    funext b; refine Fin.ext ?_
    match b with
    | ⟨0, _⟩ => rfl
    | ⟨1, _⟩ => rfl
  have hs1 : (pairScatter R C N wf).start (ix1 n) idx 1 = (idx (ix2 n 1)).toInt := by
    unfold ScatterDims.start
    rw [dif_pos (hm 1)]
    congr 2
    funext b; refine Fin.ext ?_
    match b with
    | ⟨0, _⟩ => rfl
    | ⟨1, _⟩ => rfl
  constructor
  · intro h
    have h0 := h 0; have h1 := h 1
    rw [hwin 0, hs0] at h0; rw [hwin 1, hs1] at h1
    simp only [Int.natCast_zero, add_zero] at h0 h1
    exact ⟨h0, h1⟩
  · intro h a
    match a with
    | ⟨0, _⟩ =>
      refine Eq.trans (congrArg₂ (fun (u : Int) (v : Nat) => u + (v : Int)) hs0 (hwin 0)) ?_
      rw [h.1]; rfl
    | ⟨1, _⟩ =>
      refine Eq.trans (congrArg₂ (fun (u : Int) (v : Nat) => u + (v : Int)) hs1 (hwin 1)) ?_
      rw [h.2]; rfl

/-- A matrix's row maximum as the reference takes it: a fold of the row. -/
theorem rowMax_apply {n0 n1 : Nat} {u : Shape} (v : FVec Ideal ⟨2, ![n0, n1]⟩ .f32) (c : FVec Ideal u .f32)
    (h : (⟨2, ![n0, n1]⟩ : Shape).ReducesTo [1] ⟨1, ![n0]⟩) (hu : 0 < u.numel) (i : Fin n0) :
    Host.reduce FloatOps.maximumf v c h hu (ix1 i) = Finset.univ.fold max (c (Shape.Idx.first hu)) fun k : Fin n1 => v (ix2 i k) := by
  simp only [pointwise]

end Cert.Hand
-- ==== Proof.RefValue.lean ====
/-
  What the reference computes on finite arguments: its one composed result cut into stages, each stage read at an
  index, and the mean loss they come to on real numbers.
-/
module

public import proofs.«01_k».proof.Proof.Gen.ReferenceIdeal.Run
public import Idealize.ShloMosaic.Lib.Pointwise
public import proofs.«01_k».proof.Proof.Reals
public import proofs.«01_k».proof.Proof.PairIndex

@[expose] public section

set_option maxRecDepth 16384

noncomputable section

namespace Cert.ReferenceIdeal.Hand

open Cert.ReferenceIdeal Cert.ReferenceIdeal.Gen
open Cert.Hand
open Idealize.ShloMosaic Idealize.ShloMosaic.TcCoe

/-- The scores: the queries times the table, over the temperature. -/
def score (q : FVec Ideal S1024x1024 .f32) (d : FVec Ideal S8192x1024 .f32) : FVec Ideal S1024x8192 .f32 :=
  Host.divf (Host.dotGeneral dot_S1024x1024_S1024x8192_S1024x8192_1_0_0_1_n_n none q (transpose S1024x8192 [1, 0] d transposes_S8192x1024_S1024x8192_1_0)) (broadcastInDim S1024x8192 ![] bcast_S_S1024x8192 (constant S_ .f32 0x3CA3D70A#32))

/-- The positives' places: for each row the pair of the row and its positive's column. -/
def place (o : IVec S_ 32) : IVec S1024x2 32 :=
  concatenate S1024x2 1 [⟨S1024x1, (broadcastInDim S1024x1 ![0] bcast_S1024_S1024x1_0 (select (cmpi .slt (iotaInDim S1024 32 0) (broadcastInDim S1024 ![] bcast_S_S1024 (constantI S_ 32 0#32))) (addi (iotaInDim S1024 32 0) (broadcastInDim S1024 ![] bcast_S_S1024 (constantI S_ 32 1024#32))) (iotaInDim S1024 32 0)))⟩, ⟨S1024x1, (broadcastInDim S1024x1 ![0] bcast_S1024_S1024x1_0 (select (cmpi .slt (addi (iotaInDim S1024 32 0) (broadcastInDim S1024 ![] bcast_S_S1024 o)) (broadcastInDim S1024 ![] bcast_S_S1024 (constantI S_ 32 0#32))) (addi (addi (iotaInDim S1024 32 0) (broadcastInDim S1024 ![] bcast_S_S1024 o)) (broadcastInDim S1024 ![] bcast_S_S1024 (constantI S_ 32 8192#32))) (addi (iotaInDim S1024 32 0) (broadcastInDim S1024 ![] bcast_S_S1024 o))))⟩] concatenates_S1024x1_S1024x1_S1024x2_d1

/-- The entries of an array at the positives' places. -/
def takeAt (x : FVec Ideal S1024x8192 .f32) (i : IVec S1024x2 32) : FVec Ideal S1024 .f32 :=
  Host.gather gather_S1024x8192_S1024x2_S1024_n_01_n_n_01_1_11 x i

/-- Which scores are above the row's threshold. -/
def above (s : FVec Ideal S1024x8192 .f32) (p : FVec Ideal S1024 .f32) : IVec S1024x8192 1 :=
  cmpf .ogt s (broadcastInDim S1024x8192 ![0, 1] bcast_S1024x1_S1024x8192_0_1 (mulf (broadcastInDim S1024x1 ![] bcast_S_S1024x1 (constant S_ .f32 0x3F733333#32)) (broadcastInDim S1024x1 ![0] bcast_S1024_S1024x1_0 p)))

/-- The same with the positives taken out. -/
def masked (v : IVec S1024x8192 1) (i : IVec S1024x2 32) : IVec S1024x8192 1 :=
  Host.scatter scatter_S1024x8192_S1024x2_S1024_n_01_01_1 (fun _ b => b) v i (broadcastInDim S1024 ![] bcast_S_S1024 (constantI S_ 1 0#1))

/-- The scores, halved under a mask. -/
def halved (v : IVec S1024x8192 1) (s : FVec Ideal S1024x8192 .f32) : FVec Ideal S1024x8192 .f32 :=
  select v (mulf s (broadcastInDim S1024x8192 ![] bcast_S_S1024x8192 (constant S_ .f32 0x3F000000#32))) s

/-- Each row's greatest entry. -/
def redOf (x : FVec Ideal S1024x8192 .f32) : FVec Ideal S1024 .f32 :=
  Host.reduce FloatOps.maximumf x (constant S_ .f32 0xFF800000#32) reducesTo_S1024x8192_S1024_d1 h_S_

/-- Each row's maximum, as it is subtracted. -/
def topOf (x : FVec Ideal S1024x8192 .f32) : FVec Ideal S1024 .f32 :=
  maximumf (broadcastInDim S1024 ![] bcast_S_S1024 (constant S_ .f32 0xFF800000#32)) (redOf x)

/-- Each row less its own number. -/
def lessRow (x : FVec Ideal S1024x8192 .f32) (v : FVec Ideal S1024 .f32) : FVec Ideal S1024x8192 .f32 :=
  subf x (broadcastInDim S1024x8192 ![0, 1] bcast_S1024x1_S1024x8192_0_1 (broadcastInDim S1024x1 ![0] bcast_S1024_S1024x1_0 v))

/-- Each row less the logarithm of the sum of its exponentials. -/
def lessLse (x : FVec Ideal S1024x8192 .f32) : FVec Ideal S1024x8192 .f32 :=
  subf x (broadcastInDim S1024x8192 ![0, 1] bcast_S1024x1_S1024x8192_0_1 (Host.log (broadcastInDim S1024x1 ![0] bcast_S1024_S1024x1_0 (Host.reduceAdd (Host.exp x) (constant S_ .f32 0x00000000#32) reducesTo_S1024x8192_S1024_d1 h_S_))))

/-- The mean of a vector, with its sign changed. -/
def negMean (x : FVec Ideal S1024 .f32) : FVec Ideal S_ .f32 :=
  Host.negf (Host.divf (Host.reduceAdd x (constant S_ .f32 0x00000000#32) reducesTo_S1024_S_d0 h_S_) (constant S_ .f32 0x44800000#32))

/-- The scores the reference normalizes. -/
def kept (q : FVec Ideal S1024x1024 .f32) (d : FVec Ideal S8192x1024 .f32) (o : IVec S_ 32) : FVec Ideal S1024x8192 .f32 :=
  halved (masked (above (score q d) (takeAt (score q d) (place o))) (place o)) (score q d)

/-- The reference's result. -/
def result (q : FVec Ideal S1024x1024 .f32) (d : FVec Ideal S8192x1024 .f32) (o : IVec S_ 32) : FVec Ideal S_ .f32 :=
  negMean (takeAt (lessLse (lessRow (kept q d o) (topOf (kept q d o)))) (place o))

/-- The composed result is the stages, one after the other. -/
theorem res_eq (m : (ℓ : Loc nD τ sig) → Buf (Elt Ideal) ℓ) (c : Dev nD) :
    Value.res_main_v61 m c = result (m ((c.tc : Thread nD τ).loc main_arg0)) (m ((c.tc : Thread nD τ).loc main_arg1)) (m ((c.tc : Thread nD τ).loc main_arg2)) := rfl

/-! ### The stages at an index -/

theorem score_at (q : FVec Ideal S1024x1024 .f32) (d : FVec Ideal S8192x1024 .f32) (i : Fin 1024) (j : Fin 8192) :
    score q d (ix2 i j) = Ideal.div (∑ x : Fin 1024, q (ix2 i x) * d (ix2 j x)) (Ideal.ofBits .f32 0x3CA3D70A#32) := by
  pointwise [score]

theorem place_row (o : IVec S_ 32) (i : Fin 1024) :
    place o (ix2 i 0) = Scalar.select (IntOp.cmpi .slt (BitVec.ofNat 32 i.val) 0#32) (IntOp.addi (BitVec.ofNat 32 i.val) 1024#32) (BitVec.ofNat 32 i.val) := by
  pointwise [place]

theorem place_col (o : IVec S_ 32) (i : Fin 1024) :
    place o (ix2 i 1) = Scalar.select (IntOp.cmpi .slt (IntOp.addi (BitVec.ofNat 32 i.val) (o ix0)) 0#32)
      (IntOp.addi (IntOp.addi (BitVec.ofNat 32 i.val) (o ix0)) 8192#32) (IntOp.addi (BitVec.ofNat 32 i.val) (o ix0)) := by
  pointwise [place]

theorem above_at (s : FVec Ideal S1024x8192 .f32) (p : FVec Ideal S1024 .f32) (i : Fin 1024) (j : Fin 8192) :
    above s p (ix2 i j) = BitVec.ofBool (decide (Ideal.ofBits .f32 0x3F733333#32 * p (ix1 i) < s (ix2 i j))) := by
  pointwise [above]

theorem halved_at (v : IVec S1024x8192 1) (s : FVec Ideal S1024x8192 .f32) (i : Fin 1024) (j : Fin 8192) :
    halved v s (ix2 i j) = Scalar.select (v (ix2 i j)) (s (ix2 i j) * Ideal.ofBits .f32 0x3F000000#32) (s (ix2 i j)) := by
  pointwise [halved]

theorem lessRow_at (x : FVec Ideal S1024x8192 .f32) (v : FVec Ideal S1024 .f32) (i : Fin 1024) (j : Fin 8192) :
    lessRow x v (ix2 i j) = x (ix2 i j) - v (ix1 i) := by
  pointwise [lessRow]

theorem lessLse_at (x : FVec Ideal S1024x8192 .f32) (i : Fin 1024) (j : Fin 8192) :
    lessLse x (ix2 i j) = x (ix2 i j) - Ideal.log (∑ k : Fin 8192, Ideal.exp (x (ix2 i k))) := by
  pointwise [lessLse]

theorem negMean_at (x : FVec Ideal S1024 .f32) (i : S_.Idx) :
    negMean x i = -Ideal.div (∑ k : Fin 1024, x (ix1 k)) (Ideal.ofBits .f32 0x44800000#32) := by
  pointwise [negMean]

theorem redOf_at (x : FVec Ideal S1024x8192 .f32) (i : Fin 1024) :
    redOf x (ix1 i) = Finset.univ.fold max ((constant S_ .f32 0xFF800000#32 : FVec Ideal S_ .f32) (Shape.Idx.first h_S_)) fun k : Fin 8192 => x (ix2 i k) := by
  unfold redOf
  rw [rowMax_apply (n0 := 1024) (n1 := 8192)]

theorem max_at {s : Shape} (a b : FVec Ideal s .f32) (i : s.Idx) : maximumf a b i = max (a i) (b i) := rfl

theorem splat_at (i : S1024.Idx) :
    (broadcastInDim S1024 ![] bcast_S_S1024 (constant (F := Ideal) S_ .f32 0xFF800000#32)) i = Ideal.ofBits .f32 0xFF800000#32 := rfl

theorem cst_word (w : BitVec 32) (k : S_.Idx) : (constant S_ .f32 w : FVec Ideal S_ .f32) k = Ideal.ofBits .f32 w := rfl

theorem topOf_at (x : FVec Ideal S1024x8192 .f32) (i : Fin 1024) :
    topOf x (ix1 i) = max (Ideal.ofBits .f32 0xFF800000#32) (Finset.univ.fold max (Ideal.ofBits .f32 0xFF800000#32) fun k : Fin 8192 => x (ix2 i k)) := by
  unfold topOf
  rw [max_at, splat_at, redOf_at, cst_word]

/-! ### The positives' places -/

/-- A word of a small number is read signed as that number. -/
theorem toInt_small (k : ℕ) (hk : k < 2 ^ 31) : (BitVec.ofNat 32 k).toInt = (k : Int) := by
  rw [BitVec.toInt_eq_toNat_cond, BitVec.toNat_ofNat]
  have : k % 2 ^ 32 = k := Nat.mod_eq_of_lt (by omega)
  rw [this, if_pos (by omega)]

/-- The wrap of a negative index leaves a small number alone. -/
theorem wrap_small (k : ℕ) (hk : k < 2 ^ 31) (a : BitVec 32) :
    Scalar.select (IntOp.cmpi .slt (BitVec.ofNat 32 k) 0#32) a (BitVec.ofNat 32 k) = BitVec.ofNat 32 k :=
  Routing.wrap_of_lt _ _ (by rw [BitVec.toNat_ofNat, Nat.mod_eq_of_lt (by omega)]; exact hk)

theorem place_row_int (o : IVec S_ 32) (i : Fin 1024) : (place o (ix2 i 0)).toInt = ((i.val : ℕ) : Int) := by
  have := i.isLt
  rw [place_row, wrap_small _ (by omega), toInt_small _ (by omega)]

theorem place_col_int (o : IVec S_ 32) (n : ℕ) (hn : n ≤ 7168) (ho : o ix0 = BitVec.ofNat 32 n) (i : Fin 1024) :
    (place o (ix2 i 1)).toInt = ((n + i.val : ℕ) : Int) := by
  have := i.isLt
  have e : IntOp.addi (BitVec.ofNat 32 i.val) (o ix0) = BitVec.ofNat 32 (n + i.val) := by
    rw [ho]; show BitVec.ofNat 32 i.val + BitVec.ofNat 32 n = _
    rw [← BitVec.ofNat_add, Nat.add_comm]
  rw [place_col, e, wrap_small _ (by omega), toInt_small _ (by omega)]

/-- The positive's column of row `i`. -/
def colOf (n : ℕ) (hn : n ≤ 7168) (i : Fin 1024) : Fin 8192 := ⟨n + i.val, by omega⟩

theorem takeAt_at (x : FVec Ideal S1024x8192 .f32) (o : IVec S_ 32) (n : ℕ) (hn : n ≤ 7168) (ho : o ix0 = BitVec.ofNat 32 n) (i : Fin 1024) :
    takeAt x (place o) (ix1 i) = x (ix2 i (colOf n hn i)) :=
  pairGather_apply (R := 1024) (C := 8192) (N := 1024) gather_S1024x8192_S1024x2_S1024_n_01_n_n_01_1_11_wf x (place o) i i (colOf n hn i)
    (place_row_int o i) (place_col_int o n hn ho i)

theorem lands (o : IVec S_ 32) (n : ℕ) (hn : n ≤ 7168) (ho : o ix0 = BitVec.ofNat 32 n) (k i : Fin 1024) (j : Fin 8192) :
    (scatter_S1024x8192_S1024x2_S1024_n_01_01_1).resultIdx? (ix1 k) (place o) = some (ix2 i j) ↔ k.val = i.val ∧ n + k.val = j.val := by
  refine (pairScatter_lands (R := 1024) (C := 8192) (N := 1024) scatter_S1024x8192_S1024x2_S1024_n_01_01_1_wf (place o) k i j).trans ?_
  rw [place_row_int, place_col_int o n hn ho, Nat.cast_inj, Nat.cast_inj]

theorem masked_at (v : IVec S1024x8192 1) (o : IVec S_ 32) (n : ℕ) (hn : n ≤ 7168) (ho : o ix0 = BitVec.ofNat 32 n) (i : Fin 1024) (j : Fin 8192) :
    masked v (place o) (ix2 i j) = if j.val = n + i.val then 0#1 else v (ix2 i j) := by
  unfold masked
  by_cases h : j.val = n + i.val
  · rw [if_pos h]
    exact Routing.scatter_set_hit _ _ _ _ _ _ (fun k _ => rfl) (ix1 i) ((lands o n hn ho i i j).2 ⟨rfl, h.symm⟩)
  · rw [if_neg h]
    refine Routing.scatter_set_miss _ _ _ _ _ fun k hk => h ?_
    obtain ⟨k', rfl⟩ : ∃ k' : Fin 1024, k = ix1 k' := ⟨k 0, by funext a; match a with | ⟨0, _⟩ => rfl⟩
    obtain ⟨e1, e2⟩ := (lands o n hn ho k' i j).1 hk
    omega

/-! ### The result -/

section
variable (Q : Fin 1024 → Fin 1024 → ℝ) (D : Fin 8192 → Fin 1024 → ℝ) (q : FVec Ideal S1024x1024 .f32) (d : FVec Ideal S8192x1024 .f32)
  (hq : ∀ i k, q (ix2 i k) = ((Q i k : ℝ) : EReal)) (hd : ∀ j k, d (ix2 j k) = ((D j k : ℝ) : EReal))
  (o : IVec S_ 32) (n : ℕ) (hn : n ≤ 7168) (ho : o ix0 = BitVec.ofNat 32 n)
include hq hd

theorem score_real (i : Fin 1024) (j : Fin 8192) : score q d (ix2 i j) = ((scores Q D i.val j.val : ℝ) : EReal) := by
  rw [score_at, word_temp, scores_fin]
  simp only [hq, hd, ← EReal.coe_mul]
  rw [sum_real, div_real (by norm_num)]

include hn ho

theorem kept_real (i : Fin 1024) (j : Fin 8192) :
    kept q d o (ix2 i j) = (((if j.val = n + i.val then scores Q D i.val j.val
      else halve (scores Q D i.val (n + i.val)) (scores Q D i.val j.val)) : ℝ) : EReal) := by
  unfold kept
  rw [halved_at, masked_at _ o n hn ho, above_at, takeAt_at _ o n hn ho, score_real Q D q d hq hd, score_real Q D q d hq hd, word_wt, word_half,
    ← EReal.coe_mul, ← EReal.coe_mul]
  simp only [EReal.coe_lt_coe_iff]
  by_cases h : j.val = n + i.val
  · rw [if_pos h, if_pos h]; rfl
  · rw [if_neg h, if_neg h]
    unfold halve
    by_cases hw : wt * scores Q D i.val (n + i.val) < scores Q D i.val j.val
    · rw [if_pos hw, show (colOf n hn i).val = n + i.val from rfl, decide_eq_true hw]; rfl
    · rw [if_neg hw, show (colOf n hn i).val = n + i.val from rfl, decide_eq_false hw]; rfl

theorem row_real (i : Fin 1024) :
    lessLse (lessRow (kept q d o) (topOf (kept q d o))) (ix2 i (colOf n hn i)) = ((rowGain (scores Q D i.val) (n + i.val) : ℝ) : EReal) := by
  obtain ⟨M, hM⟩ : ∃ M : ℝ, topOf (kept q d o) (ix1 i) = (M : EReal) := by
    rw [topOf_at, word_bot, max_eq_right bot_le]
    simp only [kept_real Q D q d hq hd o n hn ho]
    exact fold_real_of_mem _ (0 : Fin 8192) (Finset.mem_univ _) _
  rw [lessLse_at]
  simp only [lessRow_at, hM, kept_real Q D q d hq hd o n hn ho, ← EReal.coe_sub, exp_real]
  rw [sum_real, Fin.sum_univ_eq_sum_range (fun j => Real.exp ((if j = n + i.val then scores Q D i.val j
      else halve (scores Q D i.val (n + i.val)) (scores Q D i.val j)) - M)) 8192]
  have hS : 0 < ∑ j ∈ Finset.range 8192, Real.exp (if j = n + i.val then scores Q D i.val j
      else halve (scores Q D i.val (n + i.val)) (scores Q D i.val j)) :=
    Finset.sum_pos (fun j _ => Real.exp_pos _) ⟨0, by simp⟩
  simp only [Real.exp_sub]
  rw [← Finset.sum_div, log_real (div_pos hS (Real.exp_pos M)), Real.log_div hS.ne' (Real.exp_pos M).ne', Real.log_exp, ← EReal.coe_sub,
    show (colOf n hn i).val = n + i.val from rfl, if_pos rfl]
  refine congrArg (fun x : ℝ => (x : EReal)) ?_
  unfold rowGain
  generalize Real.log _ = L
  ring

/-- The reference's result on finite arguments. -/
theorem result_real (i : S_.Idx) : result q d o i = ((meanLoss (scores Q D) n : ℝ) : EReal) := by
  unfold result
  rw [negMean_at, word_rows]
  simp only [takeAt_at _ o n hn ho, row_real Q D q d hq hd o n hn ho]
  rw [sum_real, div_real (by norm_num), ← EReal.coe_neg, Fin.sum_univ_eq_sum_range (fun i => rowGain (scores Q D i) (n + i)) 1024]
  unfold meanLoss
  rw [neg_div]

end

end Cert.ReferenceIdeal.Hand
-- ==== Proof.Equation.lean ====
/-
  The two programs agree on finite arguments: each result is the same mean loss.
-/
module

public import proofs.«01_k».proof.Proof.KernelValue
public import proofs.«01_k».proof.Proof.RefValue
public import proofs.«01_k».proof.Proof.Frames
public import proofs.«01_k».proof.Proof.Gen.Pre_finite_and_in_table

@[expose] public section

set_option maxRecDepth 16384

noncomputable section

namespace Cert.Hand

open Idealize.ShloMosaic Idealize.SL.Sem Idealize.ShloMosaic.TcCoe

/-- An extended real whose absolute value is below infinity is a real. -/
theorem real_of_abs (x : EReal) (h : max x (-x) < ⊤) : ∃ a : ℝ, x = (a : EReal) := by
  induction x using EReal.rec with
  | bot => simp at h
  | top => simp at h
  | coe a => exact ⟨a, rfl⟩

/-- The bit of the test that an absolute value is below infinity. -/
theorem real_of_bit (x w : EReal) (hw : w = ⊤) (h : BitVec.ofBool (decide (max x (-x) < w)) = 1#1) : ∃ a : ℝ, x = (a : EReal) := by
  subst hw
  refine real_of_abs x ?_
  by_contra hx
  rw [decide_eq_false hx] at h
  exact absurd h (by decide)

section
variable [Pre_finite_and_in_table.Facts] (a : FVec Ideal Pre_finite_and_in_table.S1024x1024 .f32)
    (b : FVec Ideal Pre_finite_and_in_table.S8192x1024 .f32) (o : IVec Pre_finite_and_in_table.S_ 32)

/-- The queries are real numbers. -/
theorem queries_real (h : (Pre_finite_and_in_table.fn a b o).1 = fun _ => 1#1) (i k : Fin 1024) : ∃ x : ℝ, a (ix2 i k) = (x : EReal) :=
  real_of_bit _ _ word_top (congrFun h (ix2 i k))

/-- The table's entries are real numbers. -/
theorem table_real (h : (Pre_finite_and_in_table.fn a b o).2.1 = fun _ => 1#1) (j : Fin 8192) (k : Fin 1024) : ∃ x : ℝ, b (ix2 j k) = (x : EReal) :=
  real_of_bit _ _ word_top (congrFun h (ix2 j k))
end

/-- On finite arguments the reference's result is the kernel's. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hp : Cert.Pre_KernelIdeal_finite_and_in_table m) (c : Dev Cert.KernelIdeal.nD)
    (h0 : m' ((c.tc : Thread Cert.ReferenceIdeal.nD Cert.ReferenceIdeal.τ).loc Cert.ReferenceIdeal.main_arg0) = Cert.KernelIdeal.Hand.argQ m c)
    (h1 : m' ((c.tc : Thread Cert.ReferenceIdeal.nD Cert.ReferenceIdeal.τ).loc Cert.ReferenceIdeal.main_arg1) = Cert.KernelIdeal.Hand.argD m c)
    (h2 : m' ((c.tc : Thread Cert.ReferenceIdeal.nD Cert.ReferenceIdeal.τ).loc Cert.ReferenceIdeal.main_arg2) = Cert.KernelIdeal.Hand.argO m c) :
    Cert.ReferenceIdeal.Value.res_main_v61 m' c = Cert.KernelIdeal.Hand.resEnd m c := by
  have hQ := queries_real _ _ _ (hp c).1
  have hD := table_real _ _ _ (hp c).2.1
  have hO := fits_of_finite_and_in_table _ _ _ (hp c).2.2.1 (hp c).2.2.2.1 (hp c).2.2.2.2 ix0
  choose Q hQ using hQ
  choose D hD using hD
  have hn : (Cert.KernelIdeal.Hand.argO m c ix0).toNat ≤ 7168 := hO.2
  have ho : Cert.KernelIdeal.Hand.argO m c ix0 = BitVec.ofNat 32 (Cert.KernelIdeal.Hand.argO m c ix0).toNat := by simp
  rw [Cert.ReferenceIdeal.Hand.res_eq, h0, h1, h2]
  funext j
  exact (Cert.ReferenceIdeal.Hand.result_real Q D _ _ hQ hD _ _ hn ho j).trans (Cert.KernelIdeal.Hand.res_real m c Q D hQ hD _ hn ho j).symm

/-- The two programs end with the same result. -/
theorem algebraic : Cert.algebraic_KernelIdeal_ReferenceIdeal_pre_finite_and_in_table := by
  intro m g m' g' hp hagree
  refine ⟨fun c => Cert.KernelIdeal.Hand.resEnd m c, ?_, ?_⟩
  · exact (θ_run Cert.KernelIdeal.defs _ _).mono (fun _ h c => ⟨(h.1 c).2.2.2, (h.1 c).1, (h.1 c).2.1, (h.1 c).2.2.1⟩)
      (Cert.KernelIdeal.Hand.run_main m g (offOk_of_finite m hp))
  · exact (θ_run Cert.ReferenceIdeal.defs _ _).mono
      (fun _ h c => ⟨(h c).1.trans (results_agree m m' hp c (hagree c).1 (hagree c).2.1 (hagree c).2.2), (h c).2⟩)
      (Cert.ReferenceIdeal.Value.run (F := Ideal) m' g')

end Cert.Hand

end
-- ==== Proof.lean ====
/-
  The claims, put together from the modules of this directory.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_offset_in_table
public import proofs.«01_k».proof.Proof.Gen.Pre_finite_and_in_table
public import proofs.«01_k».proof.Proof.Frames
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_offset_in_table.Gen.facts,
  Cert.Pre_finite_and_in_table.Gen.facts,
  Cert.Hand.frame_kernel, Cert.Hand.frame_ideal, Cert.Hand.frame_ideal_finite, Cert.Hand.frame_reference, Cert.Hand.frame_reference_finite,
  Cert.Hand.constants, Cert.Hand.algebraic⟩

end Cert.Proof

end
